-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete_graph [hPre_complete_graph : Cert.Pre_complete_graph.Facts] (m : (ℓ : Loc Cert.KernelIdeal.nD Cert.KernelIdeal.τ Cert.KernelIdeal.sig) → Buf (Elt Ideal) ℓ) : Prop :=
  ∀ c : Dev Cert.KernelIdeal.nD,
    (Cert.Pre_complete_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete_graph [hPre_complete_graph : Cert.Pre_complete_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_complete_graph [hKernelIdeal : Cert.KernelIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_complete_graph [hReferenceIdeal : Cert.ReferenceIdeal.Facts] [hPre_complete_graph : Cert.Pre_complete_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_complete_graph [hKernelIdeal : Cert.KernelIdeal.Facts] [hReferenceIdeal : Cert.ReferenceIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_complete_graph : Cert.Pre_complete_graph.Facts),
    quiescent_Kernel (hKernel := hKernel)
    ∧ quiescent_KernelIdeal (hKernelIdeal := hKernelIdeal)
    ∧ quiescent_KernelIdeal_pre_complete_graph (hKernelIdeal := hKernelIdeal) (hPre_complete_graph := hPre_complete_graph)
    ∧ quiescent_ReferenceIdeal (hReferenceIdeal := hReferenceIdeal)
    ∧ quiescent_ReferenceIdeal_pre_complete_graph (hReferenceIdeal := hReferenceIdeal) (hPre_complete_graph := hPre_complete_graph)
    ∧ preserves_Kernel_KernelIdeal
    ∧ algebraic_KernelIdeal_ReferenceIdeal_pre_complete_graph (hKernelIdeal := hKernelIdeal) (hReferenceIdeal := hReferenceIdeal) (hPre_complete_graph := hPre_complete_graph)
-- ==== Pre_complete_graph.lean ====
abbrev S4x1024x8 : Shape := ⟨3, ![4, 1024, 8]⟩
abbrev S4x1048576x8 : Shape := ⟨3, ![4, 1048576, 8]⟩
abbrev S1048576 : Shape := ⟨1, ![1048576]⟩
abbrev S24x24 : Shape := ⟨2, ![24, 24]⟩
abbrev S24 : Shape := ⟨1, ![24]⟩
abbrev S24x8 : Shape := ⟨2, ![24, 8]⟩
abbrev S8 : Shape := ⟨1, ![8]⟩
abbrev S1024x1024 : Shape := ⟨2, ![1024, 1024]⟩
abbrev S_ : Shape := ⟨0, ![]⟩

class Facts : Prop where
  shapeCasts_S1048576_S1024x1024 : S1048576.ShapeCasts S1024x1024
  reducesTo_S1024x1024_S_d0_1 : S1024x1024.ReducesTo [0, 1] S_
  h_S_ : 0 < S_.numel
  bcast_S_S4x1024x8 : S_.BroadcastsInDim S4x1024x8 (![] : Fin 0 → Fin S4x1024x8.rank)
  reducesTo_S4x1024x8_S_d0_1_2 : S4x1024x8.ReducesTo [0, 1, 2] S_
  bcast_S_S4x1048576x8 : S_.BroadcastsInDim S4x1048576x8 (![] : Fin 0 → Fin S4x1048576x8.rank)
  reducesTo_S4x1048576x8_S_d0_1_2 : S4x1048576x8.ReducesTo [0, 1, 2] S_
  bcast_S_S24x24 : S_.BroadcastsInDim S24x24 (![] : Fin 0 → Fin S24x24.rank)
  reducesTo_S24x24_S_d0_1 : S24x24.ReducesTo [0, 1] S_

variable [Facts]

def fn_part1 {F : FTy → Type} [FloatOps F] (main_v8 : IVec S_ 1) (main_v12 : IVec S_ 1) (main_v16 : IVec S_ 1) (main_v17 : FVec F S24x24 .f32) : IVec S_ 1 :=
  let main_cst_4 : FVec F S_ .f32 := constant S_ .f32 0x7F800000#32
  let main_v18 : FVec F S24x24 .f32 := broadcastInDim S24x24 ![] bcast_S_S24x24 main_cst_4
  let main_v19 : IVec S24x24 1 := cmpf .olt main_v17 main_v18
  let main_c_5 : IVec S_ 1 := constantI S_ 1 1#1
  let main_v20 : IVec S_ 1 := (fun x v => Host.reduce IntOp.andi x v reducesTo_S24x24_S_d0_1 h_S_) main_v19 main_c_5
  let main_v21 : IVec S_ 1 := andi main_v16 main_v20
  let main_v22 : IVec S_ 1 := andi main_v12 main_v21
  let main_v23 : IVec S_ 1 := andi main_v8 main_v22
  main_v23

def fn {F : FTy → Type} [FloatOps F] (main_arg0 : FVec F S4x1024x8 .f32) (main_arg1 : FVec F S4x1048576x8 .f32) (main_arg2 : IVec S1048576 32) (main_arg3 : IVec S1048576 32) (main_arg4 : FVec F S24x24 .f32) (main_arg5 : FVec F S24 .f32) (main_arg6 : FVec F S24x8 .f32) (main_arg7 : FVec F S8 .f32) : IVec S_ 1 :=
  let main_v0 : IVec S1024x1024 32 := iotaInDim S1024x1024 32 0
  let main_v1 : IVec S1024x1024 32 := iotaInDim S1024x1024 32 1
  let main_v2 : IVec S1024x1024 32 := shapeCast S1024x1024 main_arg2 shapeCasts_S1048576_S1024x1024
  let main_v3 : IVec S1024x1024 1 := cmpi .eq main_v2 main_v0
  let main_c : IVec S_ 1 := constantI S_ 1 1#1
  let main_v4 : IVec S_ 1 := (fun x v => Host.reduce IntOp.andi x v reducesTo_S1024x1024_S_d0_1 h_S_) main_v3 main_c
  let main_v5 : IVec S1024x1024 32 := shapeCast S1024x1024 main_arg3 shapeCasts_S1048576_S1024x1024
  let main_v6 : IVec S1024x1024 1 := cmpi .eq main_v5 main_v1
  let main_c_0 : IVec S_ 1 := constantI S_ 1 1#1
  let main_v7 : IVec S_ 1 := (fun x v => Host.reduce IntOp.andi x v reducesTo_S1024x1024_S_d0_1 h_S_) main_v6 main_c_0
  let main_v8 : IVec S_ 1 := andi main_v4 main_v7
  let main_v9 : FVec F S4x1024x8 .f32 := Host.absf main_arg0
  let main_cst : FVec F S_ .f32 := constant S_ .f32 0x7F800000#32
  let main_v10 : FVec F S4x1024x8 .f32 := broadcastInDim S4x1024x8 ![] bcast_S_S4x1024x8 main_cst
  let main_v11 : IVec S4x1024x8 1 := cmpf .olt main_v9 main_v10
  let main_c_1 : IVec S_ 1 := constantI S_ 1 1#1
  let main_v12 : IVec S_ 1 := (fun x v => Host.reduce IntOp.andi x v reducesTo_S4x1024x8_S_d0_1_2 h_S_) main_v11 main_c_1
  let main_v13 : FVec F S4x1048576x8 .f32 := Host.absf main_arg1
  let main_cst_2 : FVec F S_ .f32 := constant S_ .f32 0x7F800000#32
  let main_v14 : FVec F S4x1048576x8 .f32 := broadcastInDim S4x1048576x8 ![] bcast_S_S4x1048576x8 main_cst_2
  let main_v15 : IVec S4x1048576x8 1 := cmpf .olt main_v13 main_v14
  let main_c_3 : IVec S_ 1 := constantI S_ 1 1#1
  let main_v16 : IVec S_ 1 := (fun x v => Host.reduce IntOp.andi x v reducesTo_S4x1048576x8_S_d0_1_2 h_S_) main_v15 main_c_3
  let main_v17 : FVec F S24x24 .f32 := Host.absf main_arg4
  fn_part1 (F := F) main_v8 main_v12 main_v16 main_v17
-- ==== Kernel.lean ====
abbrev S4x1024x8 : Shape := ⟨3, ![4, 1024, 8]⟩
abbrev S4x1048576x8 : Shape := ⟨3, ![4, 1048576, 8]⟩
abbrev S1048576 : Shape := ⟨1, ![1048576]⟩
abbrev S24x24 : Shape := ⟨2, ![24, 24]⟩
abbrev S24 : Shape := ⟨1, ![24]⟩
abbrev S24x8 : Shape := ⟨2, ![24, 8]⟩
abbrev S8 : Shape := ⟨1, ![8]⟩
abbrev S4x65536x128 : Shape := ⟨3, ![4, 65536, 128]⟩
abbrev S4x64x128 : Shape := ⟨3, ![4, 64, 128]⟩
abbrev S8x8 : Shape := ⟨2, ![8, 8]⟩
abbrev S16x16 : Shape := ⟨2, ![16, 16]⟩
abbrev S_ : Shape := ⟨0, ![]⟩
abbrev S16x1x16x1 : Shape := ⟨4, ![16, 1, 16, 1]⟩
abbrev S1x8x1x8 : Shape := ⟨4, ![1, 8, 1, 8]⟩
abbrev S16x8x16x8 : Shape := ⟨4, ![16, 8, 16, 8]⟩
abbrev S128x128 : Shape := ⟨2, ![128, 128]⟩
abbrev S1x8x16x8 : Shape := ⟨4, ![1, 8, 16, 8]⟩
abbrev S8x128 : Shape := ⟨2, ![8, 128]⟩
abbrev S16x8x1x8 : Shape := ⟨4, ![16, 8, 1, 8]⟩
abbrev S128x8 : Shape := ⟨2, ![128, 8]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S64x64 : Shape := ⟨2, ![64, 64]⟩
abbrev S64x1 : Shape := ⟨2, ![64, 1]⟩
abbrev S64x1x64x1 : Shape := ⟨4, ![64, 1, 64, 1]⟩
abbrev S1x64x1x1 : Shape := ⟨4, ![1, 64, 1, 1]⟩
abbrev S64x64x64x1 : Shape := ⟨4, ![64, 64, 64, 1]⟩
abbrev S4096x64 : Shape := ⟨2, ![4096, 64]⟩
abbrev S1x64x1x64 : Shape := ⟨4, ![1, 64, 1, 64]⟩
abbrev S64x64x1x64 : Shape := ⟨4, ![64, 64, 1, 64]⟩
abbrev S4096x128 : Shape := ⟨2, ![4096, 128]⟩
abbrev S1x4096x128 : Shape := ⟨3, ![1, 4096, 128]⟩
abbrev S1x64x8 : Shape := ⟨3, ![1, 64, 8]⟩
abbrev S1x64x128 : Shape := ⟨3, ![1, 64, 128]⟩
abbrev S64x128 : Shape := ⟨2, ![64, 128]⟩
abbrev S64x8 : Shape := ⟨2, ![64, 8]⟩
abbrev S4096x8 : Shape := ⟨2, ![4096, 8]⟩
abbrev S64x64x8 : Shape := ⟨3, ![64, 64, 8]⟩
abbrev S64x64x128 : Shape := ⟨3, ![64, 64, 128]⟩
abbrev S1x24 : Shape := ⟨2, ![1, 24]⟩
abbrev S1x1024x8 : Shape := ⟨3, ![1, 1024, 8]⟩
abbrev S1024x8 : Shape := ⟨2, ![1024, 8]⟩

abbrev nBuf : Space → Nat
  | .hbm => 93
  | .vmem => 31
  | .smem => 0
  | _ => 0

abbrev bufTy : (tb : Table) → Fin (tcTables nBuf tb) → BufTy
  | .hbm, ⟨0, _⟩ => ⟨S4x1024x8, .f32⟩
  | .hbm, ⟨1, _⟩ => ⟨S4x1048576x8, .f32⟩
  | .hbm, ⟨2, _⟩ => ⟨S1048576, .i32⟩
  | .hbm, ⟨3, _⟩ => ⟨S1048576, .i32⟩
  | .hbm, ⟨4, _⟩ => ⟨S24x24, .f32⟩
  | .hbm, ⟨5, _⟩ => ⟨S24, .f32⟩
  | .hbm, ⟨6, _⟩ => ⟨S24x8, .f32⟩
  | .hbm, ⟨7, _⟩ => ⟨S8, .f32⟩
  | .hbm, ⟨8, _⟩ => ⟨S4x65536x128, .f32⟩
  | .hbm, ⟨9, _⟩ => ⟨S4x64x128, .f32⟩
  | .hbm, ⟨10, _⟩ => ⟨S8x8, .f32⟩
  | .hbm, ⟨11, _⟩ => ⟨S8x8, .f32⟩
  | .hbm, ⟨12, _⟩ => ⟨S8x8, .f32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .i1⟩
  | .hbm, ⟨19, _⟩ => ⟨S16x16, .f32⟩
  | .hbm, ⟨20, _⟩ => ⟨S16x1x16x1, .f32⟩
  | .hbm, ⟨21, _⟩ => ⟨S1x8x1x8, .f32⟩
  | .hbm, ⟨22, _⟩ => ⟨S16x8x16x8, .f32⟩
  | .hbm, ⟨23, _⟩ => ⟨S16x8x16x8, .f32⟩
  | .hbm, ⟨24, _⟩ => ⟨S16x8x16x8, .f32⟩
  | .hbm, ⟨25, _⟩ => ⟨S128x128, .f32⟩
  | .hbm, ⟨26, _⟩ => ⟨S128x128, .i32⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S128x128, .f32⟩
  | .hbm, ⟨33, _⟩ => ⟨S128x128, .f32⟩
  | .hbm, ⟨34, _⟩ => ⟨S16x1x16x1, .f32⟩
  | .hbm, ⟨35, _⟩ => ⟨S1x8x1x8, .f32⟩
  | .hbm, ⟨36, _⟩ => ⟨S16x8x16x8, .f32⟩
  | .hbm, ⟨37, _⟩ => ⟨S16x8x16x8, .f32⟩
  | .hbm, ⟨38, _⟩ => ⟨S16x8x16x8, .f32⟩
  | .hbm, ⟨39, _⟩ => ⟨S128x128, .f32⟩
  | .hbm, ⟨40, _⟩ => ⟨S1x8x1x8, .f32⟩
  | .hbm, ⟨41, _⟩ => ⟨S1x8x16x8, .f32⟩
  | .hbm, ⟨42, _⟩ => ⟨S8x128, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S1x8x1x8, .f32⟩
  | .hbm, ⟨51, _⟩ => ⟨S16x8x1x8, .f32⟩
  | .hbm, ⟨52, _⟩ => ⟨S128x8, .f32⟩
  | .hbm, ⟨53, _⟩ => ⟨S8, .f32⟩
  | .hbm, ⟨54, _⟩ => ⟨S1x8, .f32⟩
  | .hbm, ⟨55, _⟩ => ⟨S16x8, .f32⟩
  | .hbm, ⟨56, _⟩ => ⟨S128, .f32⟩
  | .hbm, ⟨57, _⟩ => ⟨S1x128, .f32⟩
  | .hbm, ⟨58, _⟩ => ⟨S64x64, .i32⟩
  | .hbm, ⟨59, _⟩ => ⟨S64x64, .i32⟩
  | .hbm, ⟨60, _⟩ => ⟨S_, .i32⟩
  | .hbm, ⟨61, _⟩ => ⟨S64x64, .i32⟩
  | .hbm, ⟨62, _⟩ => ⟨S64x64, .i32⟩
  | .hbm, ⟨63, _⟩ => ⟨S64x64, .i1⟩
  | .hbm, ⟨64, _⟩ => ⟨S64x64, .f32⟩
  | .hbm, ⟨65, _⟩ => ⟨S_, .f32⟩
  | .hbm, ⟨66, _⟩ => ⟨S64x1, .f32⟩
  | .hbm, ⟨67, _⟩ => ⟨S64x1x64x1, .f32⟩
  | .hbm, ⟨68, _⟩ => ⟨S1x64x1x1, .f32⟩
  | .hbm, ⟨69, _⟩ => ⟨S64x64x64x1, .f32⟩
  | .hbm, ⟨70, _⟩ => ⟨S64x64x64x1, .f32⟩
  | .hbm, ⟨71, _⟩ => ⟨S64x64x64x1, .f32⟩
  | .hbm, ⟨72, _⟩ => ⟨S4096x64, .f32⟩
  | .hbm, ⟨73, _⟩ => ⟨S64x64, .i32⟩
  | .hbm, ⟨74, _⟩ => ⟨S64x64, .i32⟩
  | .hbm, ⟨75, _⟩ => ⟨S_, .i32⟩
  | .hbm, ⟨76, _⟩ => ⟨S64x64, .i32⟩
  | .hbm, ⟨77, _⟩ => ⟨S64x64, .i32⟩
  | .hbm, ⟨78, _⟩ => ⟨S64x64, .i1⟩
  | .hbm, ⟨79, _⟩ => ⟨S64x64, .f32⟩
  | .hbm, ⟨80, _⟩ => ⟨S1x64x1x64, .f32⟩
  | .hbm, ⟨81, _⟩ => ⟨S64x64x1x64, .f32⟩
  | .hbm, ⟨82, _⟩ => ⟨S4096x64, .f32⟩
  | .hbm, ⟨83, _⟩ => ⟨S4096x128, .f32⟩
  | .hbm, ⟨84, _⟩ => ⟨S4096x128, .bf16⟩
  | .hbm, ⟨85, _⟩ => ⟨S4x65536x128, .f32⟩
  | .hbm, ⟨86, _⟩ => ⟨S4x1024x8, .f32⟩
  | .hbm, ⟨87, _⟩ => ⟨S4x64x128, .f32⟩
  | .hbm, ⟨88, _⟩ => ⟨S4x1024x8, .f32⟩
  | .hbm, ⟨89, _⟩ => ⟨S1x24, .f32⟩
  | .hbm, ⟨90, _⟩ => ⟨S1x8, .f32⟩
  | .hbm, ⟨91, _⟩ => ⟨S4x1024x8, .f32⟩
  | .hbm, ⟨92, _⟩ => ⟨S4x1048576x8, .f32⟩
  | .local _ .vmem, ⟨0, _⟩ => ⟨S1x4096x128, .f32⟩
  | .local _ .vmem, ⟨1, _⟩ => ⟨S1x4096x128, .f32⟩
  | .local _ .vmem, ⟨2, _⟩ => ⟨S1x64x8, .f32⟩
  | .local _ .vmem, ⟨3, _⟩ => ⟨S1x64x8, .f32⟩
  | .local _ .vmem, ⟨4, _⟩ => ⟨S1x64x128, .f32⟩
  | .local _ .vmem, ⟨5, _⟩ => ⟨S1x64x128, .f32⟩
  | .local _ .vmem, ⟨6, _⟩ => ⟨S4096x128, .bf16⟩
  | .local _ .vmem, ⟨7, _⟩ => ⟨S128x128, .f32⟩
  | .local _ .vmem, ⟨8, _⟩ => ⟨S128x128, .f32⟩
  | .local _ .vmem, ⟨9, _⟩ => ⟨S8x128, .f32⟩
  | .local _ .vmem, ⟨10, _⟩ => ⟨S128x8, .f32⟩
  | .local _ .vmem, ⟨11, _⟩ => ⟨S1x128, .f32⟩
  | .local _ .vmem, ⟨12, _⟩ => ⟨S1x4096x128, .f32⟩
  | .local _ .vmem, ⟨13, _⟩ => ⟨S1x4096x128, .f32⟩
  | .local _ .vmem, ⟨14, _⟩ => ⟨S1x64x8, .f32⟩
  | .local _ .vmem, ⟨15, _⟩ => ⟨S1x64x8, .f32⟩
  | .local _ .vmem, ⟨16, _⟩ => ⟨S1x64x128, .f32⟩
  | .local _ .vmem, ⟨17, _⟩ => ⟨S1x64x128, .f32⟩
  | .local _ .vmem, ⟨18, _⟩ => ⟨S64x128, .f32⟩
  | .local _ .vmem, ⟨19, _⟩ => ⟨S1x1024x8, .f32⟩
  | .local _ .vmem, ⟨20, _⟩ => ⟨S1x1024x8, .f32⟩
  | .local _ .vmem, ⟨21, _⟩ => ⟨S1x1024x8, .f32⟩
  | .local _ .vmem, ⟨22, _⟩ => ⟨S1x1024x8, .f32⟩
  | .local _ .vmem, ⟨23, _⟩ => ⟨S1x1024x8, .f32⟩
  | .local _ .vmem, ⟨24, _⟩ => ⟨S1x1024x8, .f32⟩
  | .local _ .vmem, ⟨25, _⟩ => ⟨S24x24, .f32⟩
  | .local _ .vmem, ⟨26, _⟩ => ⟨S24x8, .f32⟩
  | .local _ .vmem, ⟨27, _⟩ => ⟨S1x24, .f32⟩
  | .local _ .vmem, ⟨28, _⟩ => ⟨S1x8, .f32⟩
  | .local _ .vmem, ⟨29, _⟩ => ⟨S1x1024x8, .f32⟩
  | .local _ .vmem, ⟨30, _⟩ => ⟨S1x1024x8, .f32⟩
  | _, _ => ⟨S4x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_3 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56_0 : Ref sig .tc := ⟨.hbm, 85, rfl⟩
abbrev main_v56_1 : Ref sig .tc := ⟨.hbm, 86, rfl⟩
abbrev main_v56_2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c0_i32_27 : BitVec 32 := 0#32
  let v33 : BitVec 1 := Scalar.cmpi .eq arg1 c0_i32_27
  let v34 : BitVec 32 := Scalar.extui v33
  let c0_i32_28 : BitVec 32 := 0#32
  let v35 : BitVec 1 := Scalar.cmpi .ne v34 c0_i32_28
  v35

def k0_cond3 (i : grid0.Coords) : BitVec 1 :=
  let arg1 : BitVec 32 := BitVec.ofNat 32 (i 1).val
  let c0_i32_29 : BitVec 32 := 0#32
  let v36 : BitVec 1 := Scalar.cmpi .ne arg1 c0_i32_29
  let v37 : BitVec 32 := Scalar.extui v36
  let c0_i32_30 : BitVec 32 := 0#32
  let v38 : BitVec 1 := Scalar.cmpi .ne v37 c0_i32_30
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S24x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x24 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x1024x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S4x1024x8 : Shape := ⟨3, ![4, 1024, 8]⟩
abbrev S4x1048576x8 : Shape := ⟨3, ![4, 1048576, 8]⟩
abbrev S1048576 : Shape := ⟨1, ![1048576]⟩
abbrev S24x24 : Shape := ⟨2, ![24, 24]⟩
abbrev S24 : Shape := ⟨1, ![24]⟩
abbrev S24x8 : Shape := ⟨2, ![24, 8]⟩
abbrev S8 : Shape := ⟨1, ![8]⟩
abbrev S_ : Shape := ⟨0, ![]⟩
abbrev S1024 : Shape := ⟨1, ![1024]⟩
abbrev S1048576x1 : Shape := ⟨2, ![1048576, 1]⟩
abbrev S1 : Shape := ⟨1, ![1]⟩
abbrev S1x1 : Shape := ⟨2, ![1, 1]⟩
abbrev S4x1048576x24 : Shape := ⟨3, ![4, 1048576, 24]⟩
abbrev S1x1x24 : Shape := ⟨3, ![1, 1, 24]⟩
abbrev S1024x8 : Shape := ⟨2, ![1024, 8]⟩
abbrev S1x1024x1 : Shape := ⟨3, ![1, 1024, 1]⟩
abbrev S4x1024x24 : Shape := ⟨3, ![4, 1024, 24]⟩
abbrev S1x1x8 : Shape := ⟨3, ![1, 1, 8]⟩

abbrev nBuf : Space → Nat
  | .hbm => 135
  | .vmem => 0
  | .smem => 0
  | _ => 0

abbrev hbmTy0_0 (i : Nat) : BufTy := match i % 128 with
  | 0 => ⟨S4x1024x8, .f32⟩
  | 1 => ⟨S4x1048576x8, .f32⟩
  | 2 => ⟨S1048576, .i32⟩
  | 3 => ⟨S1048576, .i32⟩
  | 4 => ⟨S24x24, .f32⟩
  | 5 => ⟨S24, .f32⟩
  | 6 => ⟨S24x8, .f32⟩
  | 7 => ⟨S8, .f32⟩
  | 8 => ⟨S_, .i32⟩
  | 9 => ⟨S1024, .i32⟩
  | 10 => ⟨S_, .i32⟩
  | 11 => ⟨S_, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i32⟩
  | 20 => ⟨S1048576, .i32⟩
  | 21 => ⟨S1048576x1, .i32⟩
  | 22 => ⟨S_, .i32⟩
  | 23 => ⟨S1048576, .i32⟩
  | 24 => ⟨S1024, .i32⟩
  | 25 => ⟨S_, .i32⟩
  | 26 => ⟨S1024, .i32⟩
  | 27 => ⟨S_, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S1048576x1, .i32⟩
  | 39 => ⟨S_, .i32⟩
  | 40 => ⟨S1048576, .i32⟩
  | 41 => ⟨S1024, .i32⟩
  | 42 => ⟨S_, .i32⟩
  | 43 => ⟨S1024, .i32⟩
  | 44 => ⟨S1024, .i1⟩
  | 45 => ⟨S_, .i32⟩
  | 46 => ⟨S_, .i32⟩
  | 47 => ⟨S1024, .i32⟩
  | 48 => ⟨S1024, .i32⟩
  | 49 => ⟨S1024, .f32⟩
  | 50 => ⟨S_, .i32⟩
  | 51 => ⟨S1024, .i32⟩
  | 52 => ⟨S1024, .i1⟩
  | 53 => ⟨S_, .i32⟩
  | 54 => ⟨S_, .i32⟩
  | 55 => ⟨S1024, .i32⟩
  | 56 => ⟨S1024, .i32⟩
  | 57 => ⟨S1024, .f32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S1048576x1, .i32⟩
  | 66 => ⟨S1, .i32⟩
  | 67 => ⟨S_, .i32⟩
  | 68 => ⟨S1048576x1, .i32⟩
  | 69 => ⟨S1048576x1, .i1⟩
  | 70 => ⟨S1x1, .i32⟩
  | 71 => ⟨S1048576x1, .i32⟩
  | 72 => ⟨S1048576x1, .i1⟩
  | 73 => ⟨S1048576x1, .i1⟩
  | 74 => ⟨S_, .i1⟩
  | 75 => ⟨S1048576, .i1⟩
  | 76 => ⟨S4x1048576x8, .f32⟩
  | 77 => ⟨S4x1048576x8, .i1⟩
  | 78 => ⟨S_, .f32⟩
  | 79 => ⟨S4x1048576x8, .f32⟩
  | 80 => ⟨S4x1048576x8, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S1048576x1, .i32⟩
  | 89 => ⟨S1, .i32⟩
  | 90 => ⟨S_, .i32⟩
  | 91 => ⟨S1048576x1, .i32⟩
  | 92 => ⟨S1048576x1, .i1⟩
  | 93 => ⟨S1x1, .i32⟩
  | 94 => ⟨S1048576x1, .i32⟩
  | 95 => ⟨S1048576x1, .i1⟩
  | 96 => ⟨S1048576x1, .i1⟩
  | 97 => ⟨S_, .i1⟩
  | 98 => ⟨S1048576, .i1⟩
  | 99 => ⟨S4x1048576x8, .f32⟩
  | 100 => ⟨S4x1048576x8, .i1⟩
  | 101 => ⟨S_, .f32⟩
  | 102 => ⟨S4x1048576x8, .f32⟩
  | 103 => ⟨S4x1048576x8, .f32⟩
  | 104 => ⟨S4x1048576x24, .f32⟩
  | 105 => ⟨S4x1048576x24, .f32⟩
  | 106 => ⟨S1x1x24, .f32⟩
  | 107 => ⟨S4x1048576x24, .f32⟩
  | 108 => ⟨S4x1048576x24, .f32⟩
  | 109 => ⟨S4x1048576x8, .f32⟩
  | 110 => ⟨S4x1048576x8, .f32⟩
  | 111 => ⟨S4x1048576x8, .f32⟩
  | 112 => ⟨S_, .f32⟩
  | 113 => ⟨S1024x8, .f32⟩
  | 114 => ⟨S1048576x1, .i32⟩
  | 115 => ⟨S4x1024x8, .f32⟩
  | 116 => ⟨S4x1024x8, .f32⟩
  | 117 => ⟨S_, .f32⟩
  | 118 => ⟨S1024x8, .f32⟩
  | 119 => ⟨S1048576x1, .i32⟩
  | 120 => ⟨S4x1024x8, .f32⟩
  | 121 => ⟨S4x1024x8, .f32⟩
  | 122 => ⟨S1x1024x1, .f32⟩
  | 123 => ⟨S4x1024x8, .f32⟩
  | 124 => ⟨S4x1024x8, .f32⟩
  | 125 => ⟨S1x1024x1, .f32⟩
  | 126 => ⟨S4x1024x8, .f32⟩
  | 127 => ⟨S4x1024x8, .f32⟩
  | _ => ⟨S4x1024x8, .f32⟩

abbrev hbmTy0_1 (i : Nat) : BufTy := match i % 128 with
  | 0 => ⟨S4x1024x24, .f32⟩
  | 1 => ⟨S4x1024x8, .f32⟩
  | 2 => ⟨S1x1x8, .f32⟩
  | 3 => ⟨S4x1024x8, .f32⟩
  | 4 => ⟨S4x1024x8, .f32⟩
  | 5 => ⟨S4x1024x8, .f32⟩
  | 6 => ⟨S4x1048576x8, .f32⟩
  | _ => ⟨S4x1024x8, .f32⟩

abbrev hbmTy (i : Nat) : BufTy := match i / 128 with
  | 0 => hbmTy0_0 i
  | 1 => hbmTy0_1 i
  | _ => ⟨S4x1024x8, .f32⟩

abbrev bufTy : (tb : Table) → Fin (tcTables nBuf tb) → BufTy
  | .hbm, ⟨i, _⟩ => hbmTy i
  | _, _ => ⟨S4x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_c_5 : Ref sig .tc := ⟨.hbm, 27, rfl⟩
abbrev main_call1_v0 : Ref sig .tc := ⟨.hbm, 28, rfl⟩
abbrev main_call1_v1 : Ref sig .tc := ⟨.hbm, 29, rfl⟩
abbrev main_v11 : Ref sig .tc := ⟨.hbm, 30, rfl⟩
abbrev main_c_6 : Ref sig .tc := ⟨.hbm, 31, rfl⟩
abbrev main_v12 : Ref sig .tc := ⟨.hbm, 32, rfl⟩
abbrev main_v13 : Ref sig .tc := ⟨.hbm, 33, rfl⟩
abbrev main_c_7 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_8 : Ref sig .tc := ⟨.hbm, 39, rfl⟩
abbrev main_v18 : Ref sig .tc := ⟨.hbm, 40, rfl⟩
abbrev main_v19 : Ref sig .tc := ⟨.hbm, 41, rfl⟩
abbrev main_c_9 : Ref sig .tc := ⟨.hbm, 42, rfl⟩
abbrev main_v20 : Ref sig .tc := ⟨.hbm, 43, rfl⟩
abbrev main_v21 : Ref sig .tc := ⟨.hbm, 44, rfl⟩
abbrev main_c_10 : Ref sig .tc := ⟨.hbm, 45, rfl⟩
abbrev main_call2_v0 : Ref sig .tc := ⟨.hbm, 46, rfl⟩
abbrev main_call2_v1 : Ref sig .tc := ⟨.hbm, 47, rfl⟩
abbrev main_v22 : Ref sig .tc := ⟨.hbm, 48, rfl⟩
abbrev main_v23 : Ref sig .tc := ⟨.hbm, 49, rfl⟩
abbrev main_c_11 : Ref sig .tc := ⟨.hbm, 50, rfl⟩
abbrev main_v24 : Ref sig .tc := ⟨.hbm, 51, rfl⟩
abbrev main_v25 : Ref sig .tc := ⟨.hbm, 52, rfl⟩
abbrev main_c_12 : Ref sig .tc := ⟨.hbm, 53, rfl⟩
abbrev main_call3_v0 : Ref sig .tc := ⟨.hbm, 54, rfl⟩
abbrev main_call3_v1 : Ref sig .tc := ⟨.hbm, 55, rfl⟩
abbrev main_v26 : Ref sig .tc := ⟨.hbm, 56, rfl⟩
abbrev main_v27 : Ref sig .tc := ⟨.hbm, 57, rfl⟩
abbrev main_call4_c : Ref sig .tc := ⟨.hbm, 58, rfl⟩
abbrev main_call4_v0 : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_c_1 : Ref sig .tc := ⟨.hbm, 66, rfl⟩
abbrev main_call4_c_2 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_c_3 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_call4_cst : Ref sig .tc := ⟨.hbm, 78, rfl⟩
abbrev main_call4_v15 : Ref sig .tc := ⟨.hbm, 79, rfl⟩
abbrev main_v28 : Ref sig .tc := ⟨.hbm, 80, rfl⟩
abbrev main_call5_c : Ref sig .tc := ⟨.hbm, 81, rfl⟩
abbrev main_call5_v0 : Ref sig .tc := ⟨.hbm, 82, rfl⟩
abbrev main_call5_v1 : Ref sig .tc := ⟨.hbm, 83, rfl⟩
abbrev main_call5_c_0 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_call5_v5 : Ref sig .tc := ⟨.hbm, 88, rfl⟩
abbrev main_call5_c_1 : Ref sig .tc := ⟨.hbm, 89, rfl⟩
abbrev main_call5_c_2 : Ref sig .tc := ⟨.hbm, 90, rfl⟩
abbrev main_call5_v6 : Ref sig .tc := ⟨.hbm, 91, rfl⟩
abbrev main_call5_v7 : Ref sig .tc := ⟨.hbm, 92, rfl⟩
abbrev main_call5_v8 : Ref sig .tc := ⟨.hbm, 93, rfl⟩
abbrev main_call5_v9 : Ref sig .tc := ⟨.hbm, 94, rfl⟩
abbrev main_call5_v10 : Ref sig .tc := ⟨.hbm, 95, rfl⟩
abbrev main_call5_v11 : Ref sig .tc := ⟨.hbm, 96, rfl⟩
abbrev main_call5_c_3 : Ref sig .tc := ⟨.hbm, 97, rfl⟩
abbrev main_call5_v12 : Ref sig .tc := ⟨.hbm, 98, rfl⟩
abbrev main_call5_v13 : Ref sig .tc := ⟨.hbm, 99, rfl⟩
abbrev main_call5_v14 : Ref sig .tc := ⟨.hbm, 100, rfl⟩
abbrev main_call5_cst : Ref sig .tc := ⟨.hbm, 101, rfl⟩
abbrev main_call5_v15 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_cst : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_cst_13 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩

abbrev nD : Nat := 1
abbrev τ : Topo := Topo.v7x

variable {F : FTy → Type} [FloatOps F]
-- ==== Proof.Edge.Step.lean ====
/-
The edge kernel's body, run once.

One grid point of the edge kernel works on four input blocks and five small constant matrices.  At
the first point of a batch it computes the vertex-b part of the messages and keeps it in a scratch
buffer; at every point it computes 4096 rows of edge messages, the partial sums over the edges'
second end, and adds the block's contribution to the sums over the edges' first end.

The two theorems of this module say what the body leaves in each buffer, as a function of the
contents it found.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.VecWindow
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer stored over in one piece reads the stored value. -/
theorem stored {sp : Space} {s : Shape} {e : EltTy} (a : Memref sig .tc sp s e) (f : a.view.ty.Contents (Elt F))
    {off : Fin s.rank → ℕ} (inb : ∀ i, off i + s.size i ≤ s.size i)
    (w : (Rect.unit off s.size inb).shape.Idx → Elt F e) (v : s.Idx → Elt F e) (h : w = v) :
    a.view.read (Elt F) (a.view.writes (Elt F) f [⟨Rect.unit off s.size inb, w⟩]) = v :=
  (View.read_writes_full a.view f inb w []).trans h

/-- A load of a whole buffer held at the contents that read `v` is `v`. -/
theorem load_unread {sp : Space} {s : Shape} {e : EltTy} (a : Memref sig .tc sp s e)
    (ha : a.IsWhole) (v : s.Idx → Elt F e) {off : Fin s.rank → ℕ} (inb : ∀ i, off i + s.size i ≤ s.size i) :
    a.view.readAt (Elt F) (Rect.unit off s.size inb).toLoadRect (ha.unread v) = v :=
  (View.readAt_full a.view _ inb).trans (ha.read_unread v)

/-- The vertex-b part of a batch's messages: what the scratch buffer keeps. -/
def part (x2 : Vec F S1x64x128 .f32) (x5 : Vec F S128x128 .f32) (x8 : Vec F S1x128 .f32) : Vec F S64x128 .f32 :=
  k0_pay5 x2 x5 x8

/-- A block of new edge values, from the edge block, the block of vertex rows and the kept part. -/
def msg (x0 : Vec F S1x4096x128 .f32) (x1 : Vec F S1x64x8 .f32) (x3 : Vec F S4096x128 .bf16) (x4 : Vec F S128x128 .f32)
    (x6 : Vec F S8x128 .f32) (p : Vec F S64x128 .f32) : Vec F S1x4096x128 .f32 :=
  k0_pay7 x0 x1 x6 p x3 x4

/-- The sums of an edge block over the edges' second end. -/
def rowSum (x0 : Vec F S1x4096x128 .f32) (x7 : Vec F S128x8 .f32) : Vec F S1x64x8 .f32 :=
  k0_pay1 (k0_pay8 x0 x7)

/-- The sums of an edge block over the edges' first end, alone. -/
def colSum (x0 : Vec F S1x4096x128 .f32) : Vec F S1x64x128 .f32 := k0_pay3 (k0_pay6 x0)

/-- The same sums added to what the earlier blocks of the batch gave. -/
def colAdd (x0 : Vec F S1x4096x128 .f32) (acc : Vec F S1x64x128 .f32) : Vec F S1x64x128 .f32 := k0_pay4 (k0_pay6 x0) acc

/-! Each of the five is a function of its arguments: equal arguments, equal values. -/

theorem part_eq {a a' : Vec F S1x64x128 .f32} {b b' : Vec F S128x128 .f32} {d d' : Vec F S1x128 .f32} (ha : a = a') (hb : b = b')
    (hd : d = d') : k0_pay5 a b d = part a' b' d' := by subst ha hb hd; rfl

theorem msg_eq {a a' : Vec F S1x4096x128 .f32} {b b' : Vec F S1x64x8 .f32} {d d' : Vec F S8x128 .f32} {p p' : Vec F S64x128 .f32}
    {e e' : Vec F S4096x128 .bf16} {w w' : Vec F S128x128 .f32} (ha : a = a') (hb : b = b') (hd : d = d') (hp : p = p') (he : e = e')
    (hw : w = w') : k0_pay7 a b d p e w = msg a' b' e' w' d' p' := by subst ha hb hd hp he hw; rfl

theorem rowSum_eq {a a' : Vec F S1x4096x128 .f32} {b b' : Vec F S128x8 .f32} (ha : a = a') (hb : b = b') :
    k0_pay1 (k0_pay8 a b) = rowSum a' b' := by subst ha hb; rfl

theorem colSum_eq {a a' : Vec F S1x4096x128 .f32} (ha : a = a') : k0_pay3 (k0_pay6 a) = colSum a' := by subst ha; rfl

theorem colAdd_eq {a a' : Vec F S1x4096x128 .f32} {b b' : Vec F S1x64x128 .f32} (ha : a = a') (hb : b = b') :
    k0_pay4 (k0_pay6 a) b = colAdd a' b' := by subst ha hb; rfl

/-- The body's first branch: the point is the first of its batch. -/
def atFirst (i : grid0.Coords) : Prop :=
  (Scalar.cmpi .ne (Scalar.extui (Scalar.cmpi .eq (BitVec.ofNat 32 (i 1).val) 0#32)) 0#32) = 1#1

set_option maxHeartbeats 1000000 in
/-- At the first point of a batch: the kept part, the messages, both sums are stored. -/
theorem run_first (c : Dev nD) (i : grid0.Coords)
    (arg2 : Memref sig .tc .vmem S1x4096x128 .f32) (harg2 : arg2.IsWhole) (arg3 : Memref sig .tc .vmem S1x64x8 .f32) (harg3 : arg3.IsWhole)
    (arg4 : Memref sig .tc .vmem S1x64x128 .f32) (harg4 : arg4.IsWhole) (arg5 : Memref sig .tc .vmem S4096x128 .bf16) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S8x128 .f32) (harg8 : arg8.IsWhole) (arg9 : Memref sig .tc .vmem S128x8 .f32) (harg9 : arg9.IsWhole)
    (arg10 : Memref sig .tc .vmem S1x128 .f32) (harg10 : arg10.IsWhole) (arg11 : Memref sig .tc .vmem S1x4096x128 .f32) (harg11 : arg11.IsWhole)
    (arg12 : Memref sig .tc .vmem S1x64x8 .f32) (harg12 : arg12.IsWhole) (arg13 : Memref sig .tc .vmem S1x64x128 .f32) (harg13 : arg13.IsWhole)
    (arg14 : Memref sig .tc .vmem S64x128 .f32) (harg14 : arg14.IsWhole)
    (hc0 : atFirst i) (hc1 : k0_cond2 i = 1#1) (hc2 : ¬ k0_cond3 i = 1#1)
    (x0 : Vec F S1x4096x128 .f32) (x1 : Vec F S1x64x8 .f32) (x2 : Vec F S1x64x128 .f32) (x3 : Vec F S4096x128 .bf16) (x4 : Vec F S128x128 .f32)
    (x5 : Vec F S128x128 .f32) (x6 : Vec F S8x128 .f32) (x7 : Vec F S128x8 .f32) (x8 : Vec F S1x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (msg x0 x1 x3 x4 x6 (part x2 x5 x8)) ∗ owns (c : Thread nD τ) arg12 fullShare (rowSum x0 x7)
            ∗ owns (c : Thread nD τ) arg13 fullShare (colSum x0) ∗ owns (c : Thread nD τ) arg14 fullShare (part x2 x5 x8)) -∗ K ⟨⟩))
      ⊢ wp frame (wpE (defs₀ (F := F)) Variants.none c none) E
          (cc0__edge_body i arg2 harg2 arg3 harg3 arg4 harg4 arg5 harg5 arg6 harg6 arg7 harg7 arg8 harg8 arg9 harg9 arg10 harg10 arg11 harg11 arg12 harg12 arg13 harg13 arg14 harg14) K := by
  simp only [cc0__edge_body_eq_skeleton]; unfold cc0__edge_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  unfold atFirst at hc0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; rotate_left
    · iexact H9
    ipureintro
    sl_unfold_run_names
    exact stored _ _ _ _ _ (msg_eq (load_unread arg2 harg2 x0 _) (load_unread arg3 harg3 x1 _) (load_unread arg8 harg8 x6 _)
      ((View.readCov_full arg14.view _ _ _ _).trans (part_eq (load_unread arg4 harg4 x2 _) (load_unread arg7 harg7 x5 _) (load_unread arg10 harg10 x8 _)))
      (load_unread arg5 harg5 x3 _) (load_unread arg6 harg6 x4 _))
  isplitl [H10]
  · iexists _; isplitr; rotate_left
    · iexact H10
    ipureintro
    sl_unfold_run_names
    exact stored _ _ _ _ _ (rowSum_eq (load_unread arg2 harg2 x0 _) (load_unread arg9 harg9 x7 _))
  isplitl [H11]
  · iexists _; isplitr; rotate_left
    · iexact H11
    ipureintro
    sl_unfold_run_names
    exact stored _ _ _ _ _ (colSum_eq (load_unread arg2 harg2 x0 _))
  iexists _; isplitr; rotate_left
  · iexact HS
  ipureintro
  sl_unfold_run_names
  exact stored _ _ _ _ _ (part_eq (load_unread arg4 harg4 x2 _) (load_unread arg7 harg7 x5 _) (load_unread arg10 harg10 x8 _))

set_option maxHeartbeats 1000000 in
/-- At the other points of a batch: the kept part is read, the messages and both sums are stored. -/
theorem run_next (c : Dev nD) (i : grid0.Coords)
    (arg2 : Memref sig .tc .vmem S1x4096x128 .f32) (harg2 : arg2.IsWhole) (arg3 : Memref sig .tc .vmem S1x64x8 .f32) (harg3 : arg3.IsWhole)
    (arg4 : Memref sig .tc .vmem S1x64x128 .f32) (harg4 : arg4.IsWhole) (arg5 : Memref sig .tc .vmem S4096x128 .bf16) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S8x128 .f32) (harg8 : arg8.IsWhole) (arg9 : Memref sig .tc .vmem S128x8 .f32) (harg9 : arg9.IsWhole)
    (arg10 : Memref sig .tc .vmem S1x128 .f32) (harg10 : arg10.IsWhole) (arg11 : Memref sig .tc .vmem S1x4096x128 .f32) (harg11 : arg11.IsWhole)
    (arg12 : Memref sig .tc .vmem S1x64x8 .f32) (harg12 : arg12.IsWhole) (arg13 : Memref sig .tc .vmem S1x64x128 .f32) (harg13 : arg13.IsWhole)
    (arg14 : Memref sig .tc .vmem S64x128 .f32) (harg14 : arg14.IsWhole)
    (hc0 : ¬ atFirst i) (hc1 : ¬ k0_cond2 i = 1#1) (hc2 : k0_cond3 i = 1#1)
    (x0 : Vec F S1x4096x128 .f32) (x1 : Vec F S1x64x8 .f32) (x2 : Vec F S1x64x128 .f32) (x3 : Vec F S4096x128 .bf16) (x4 : Vec F S128x128 .f32)
    (x5 : Vec F S128x128 .f32) (x6 : Vec F S8x128 .f32) (x7 : Vec F S128x8 .f32) (x8 : Vec F S1x128 .f32)
    (acc : Vec F S1x64x128 .f32) (p : Vec F S64x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d) ∗ (∃ d, owns (c : Thread nD τ) arg12 fullShare d)
        ∗ owns (c : Thread nD τ) arg13 fullShare acc ∗ owns (c : Thread nD τ) arg14 fullShare p
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (msg x0 x1 x3 x4 x6 p) ∗ owns (c : Thread nD τ) arg12 fullShare (rowSum x0 x7)
            ∗ owns (c : Thread nD τ) arg13 fullShare (colAdd x0 acc) ∗ owns (c : Thread nD τ) arg14 fullShare p) -∗ K ⟨⟩))
      ⊢ wp frame (wpE (defs₀ (F := F)) Variants.none c none) E
          (cc0__edge_body i arg2 harg2 arg3 harg3 arg4 harg4 arg5 harg5 arg6 harg6 arg7 harg7 arg8 harg8 arg9 harg9 arg10 harg10 arg11 harg11 arg12 harg12 arg13 harg13 arg14 harg14) K := by
  simp only [cc0__edge_body_eq_skeleton]; unfold cc0__edge_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg13.eq_unread hf11; obtain rfl := harg14.eq_unread hfs
  unfold atFirst at hc0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; rotate_left
    · iexact H9
    ipureintro
    sl_unfold_run_names
    exact stored _ _ _ _ _ (msg_eq (load_unread arg2 harg2 x0 _) (load_unread arg3 harg3 x1 _) (load_unread arg8 harg8 x6 _)
      (load_unread arg14 harg14 p _)
      (load_unread arg5 harg5 x3 _) (load_unread arg6 harg6 x4 _))
  isplitl [H10]
  · iexists _; isplitr; rotate_left
    · iexact H10
    ipureintro
    sl_unfold_run_names
    exact stored _ _ _ _ _ (rowSum_eq (load_unread arg2 harg2 x0 _) (load_unread arg9 harg9 x7 _))
  isplitl [H11]
  · iexists _; isplitr; rotate_left
    · iexact H11
    ipureintro
    sl_unfold_run_names
    exact stored _ _ _ _ _ (colAdd_eq (load_unread arg2 harg2 x0 _) (load_unread arg13 harg13 acc _))
  iexists _; isplitr; · ipureintro; exact harg14.read_unread _
  iexact HS

end Cert.KernelIdeal.Edge

end
-- ==== Proof.Edge.Region.lean ====
/-
The edge kernel's region: sixty-four points, sixteen to a batch.

A batch's first point computes the vertex-b part of the messages into the scratch buffer, where the
batch's other points find it, and starts the sums over the edges' first end, which the others add to.
The region is stated over any contents `W` of the buffers it finds.
-/
module

public import proofs.«01_k».proof.Proof.Edge.Step
public import Idealize.ShloMosaic.Lib.Pipeline.RegionArraysS

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The block of window `w`'s array that point `t` works on. -/
def blk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first point of the batch `t` is in. -/
def firstOf (t : Fin cfg0.N) : Fin cfg0.N := ⟨t.val - t.val % 16, Nat.lt_of_le_of_lt (Nat.sub_le _ _) t.isLt⟩

/-- The point before `t`. -/
def prev (t : Fin cfg0.N) : Fin cfg0.N := ⟨t.val - 1, Nat.lt_of_le_of_lt (Nat.sub_le _ _) t.isLt⟩

theorem firstOf_first (t : Fin cfg0.N) (h : t.val % 16 = 0) : firstOf t = t := Fin.ext (by show t.val - t.val % 16 = t.val; omega)

theorem firstOf_prev (t : Fin cfg0.N) (h : ¬ t.val % 16 = 0) : firstOf (prev t) = firstOf t :=
  Fin.ext (by show t.val - 1 - (t.val - 1) % 16 = t.val - t.val % 16; omega)

/-- What the scratch buffer holds after point `t`: the vertex-b part, computed at the batch's first point. -/
def kept (c : Dev nD) (t : Fin cfg0.N) : Vec F S64x128 .f32 :=
  part (blk W c 2 (firstOf t)) (blk W c 5 (firstOf t)) (blk W c 8 (firstOf t))

/-- The new edge values point `t` stores. -/
def outMsg (c : Dev nD) (t : Fin cfg0.N) : Vec F S1x4096x128 .f32 :=
  msg (blk W c 0 t) (blk W c 1 t) (blk W c 3 t) (blk W c 4 t) (blk W c 6 t) (kept W c t)

/-- The sums over the second end point `t` stores. -/
def outRow (c : Dev nD) (t : Fin cfg0.N) : Vec F S1x64x8 .f32 := rowSum (blk W c 0 t) (blk W c 7 t)

/-- The sums over the first end after point `n`: those of the batch's points up to it. -/
def colsTo (c : Dev nD) : (n : ℕ) → n < cfg0.N → Vec F S1x64x128 .f32
  | 0, hn => colSum (blk W c 0 ⟨0, hn⟩)
  | n + 1, hn => if (n + 1) % 16 = 0 then colSum (blk W c 0 ⟨n + 1, hn⟩)
      else colAdd (blk W c 0 ⟨n + 1, hn⟩) (colsTo c n (Nat.lt_of_succ_lt hn))

def outCol (c : Dev nD) (t : Fin cfg0.N) : Vec F S1x64x128 .f32 := colsTo W c t.val t.isLt

theorem outCol_first (c : Dev nD) (t : Fin cfg0.N) (h : t.val % 16 = 0) : outCol W c t = colSum (blk W c 0 t) := by
  obtain ⟨n, hn⟩ := t
  cases n with
  | zero => rfl
  | succ n => exact if_pos h

theorem outCol_next (c : Dev nD) (t : Fin cfg0.N) (h : ¬ t.val % 16 = 0) : outCol W c t = colAdd (blk W c 0 t) (outCol W c (prev t)) := by
  obtain ⟨n, hn⟩ := t
  cases n with
  | zero => exact absurd (Nat.zero_mod _) h
  | succ n => exact if_neg h

theorem kept_first (c : Dev nD) (t : Fin cfg0.N) (h : t.val % 16 = 0) : kept W c t = part (blk W c 2 t) (blk W c 5 t) (blk W c 8 t) := by
  unfold kept; rw [firstOf_first t h]

theorem kept_prev (c : Dev nD) (t : Fin cfg0.N) (h : ¬ t.val % 16 = 0) : kept W c (prev t) = kept W c t := by
  unfold kept; rw [firstOf_prev t h]

/-- The scratch buffer. -/
abbrev scratch : Memref sig .tc .vmem S64x128 .f32 := Memref.whole cc0_scratch0

/-- The node kernel's staging buffers, unused here, at any contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f))

/-- The buffers no window of the region stages: the scratch buffer and the node kernel's. -/
theorem scoped_eq (c : Dev nD) :
    (Pipeline.scopedRest spec0 c : sProp 𝕄) = iprop((∃ d, owns (c : Thread nD τ) scratch fullShare d) ∗ others c) := by
  rw [scopedRest0_eq]; simp only [scratch, owns_whole]; try rfl

/-- Before the point of number `n`: the scratch buffer at what the point before left in it. -/
def inv (c : Dev nD) : (n : ℕ) → n ≤ cfg0.N → sProp 𝕄
  | 0, _ => Pipeline.scopedRest spec0 c
  | n + 1, hn => iprop(owns (c : Thread nD τ) scratch fullShare (kept W c ⟨n, hn⟩) ∗ others c)

theorem inv_scoped (c : Dev nD) (n : ℕ) (h : n ≤ cfg0.N) : inv W c n h ⊢ iprop((∃ d, owns (c : Thread nD τ) scratch fullShare d) ∗ others c) := by
  cases n with
  | zero => show (Pipeline.scopedRest spec0 c : sProp 𝕄) ⊢ _; rw [scoped_eq]
  | succ n =>
    show iprop(owns (c : Thread nD τ) scratch fullShare (kept W c ⟨n, h⟩) ∗ others c) ⊢ _
    iintro ⟨HS, Ho⟩
    isplitl [HS]
    · iexists _; iexact HS
    iexact Ho

theorem inv_later (c : Dev nD) (t : Fin cfg0.N) (h : ¬ t.val % 16 = 0) :
    inv W c t.val (Nat.le_of_lt t.isLt) = iprop(owns (c : Thread nD τ) scratch fullShare (kept W c t) ∗ others c) := by
  rw [← kept_prev W c t h]
  obtain ⟨n, hn⟩ := t
  cases n with
  | zero => exact absurd (Nat.zero_mod _) h
  | succ n => rfl

/-- The region's data: the arrays as found; every input left in place, the outputs at their values. -/
def data (c : Dev nD) : Dat τ (Elt F) Unit ℕ (UR sig nD τ) ℕ cfg0 c where
  A w := W c (Proc.devRef .tc (Pipeline.arrRef spec0 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => blk W c 7 t
    | ⟨8, _⟩ => blk W c 8 t
    | ⟨9, _⟩ => outMsg W c t
    | ⟨10, _⟩ => outRow W c t
    | ⟨11, _⟩ => outCol W c t
  Φ t := inv W c t.val (Nat.le_of_lt_succ t.isLt)
  q _ := fullShare
  owed _ := 0

theorem data_A (c : Dev nD) (w : Fin cfg0.W) : (data W c).A w = W c (Proc.devRef .tc (Pipeline.arrRef spec0 w)) := by
  dsimp only [data]

theorem inv_before (c : Dev nD) (t : Fin cfg0.N) : (data W c).Φ t.castSucc = inv W c t.val (Nat.le_of_lt t.isLt) := by
  exact Pipeline.Dat.Φ_castSucc (inv W c) t

theorem inv_after (c : Dev nD) (t : Fin cfg0.N) :
    (data W c).Φ t.succ = iprop(owns (c : Thread nD τ) scratch fullShare (kept W c t) ∗ others c) := rfl

theorem after_0 (c : Dev nD) (t : Fin cfg0.N) : (data W c).after 0 t = blk W c 0 t := by dsimp only [data]
theorem after_1 (c : Dev nD) (t : Fin cfg0.N) : (data W c).after 1 t = blk W c 1 t := by dsimp only [data]
theorem after_2 (c : Dev nD) (t : Fin cfg0.N) : (data W c).after 2 t = blk W c 2 t := by dsimp only [data]
theorem after_3 (c : Dev nD) (t : Fin cfg0.N) : (data W c).after 3 t = blk W c 3 t := by dsimp only [data]
theorem after_4 (c : Dev nD) (t : Fin cfg0.N) : (data W c).after 4 t = blk W c 4 t := by dsimp only [data]
theorem after_5 (c : Dev nD) (t : Fin cfg0.N) : (data W c).after 5 t = blk W c 5 t := by dsimp only [data]
theorem after_6 (c : Dev nD) (t : Fin cfg0.N) : (data W c).after 6 t = blk W c 6 t := by dsimp only [data]
theorem after_7 (c : Dev nD) (t : Fin cfg0.N) : (data W c).after 7 t = blk W c 7 t := by dsimp only [data]
theorem after_8 (c : Dev nD) (t : Fin cfg0.N) : (data W c).after 8 t = blk W c 8 t := by dsimp only [data]
theorem after_9 (c : Dev nD) (t : Fin cfg0.N) : (data W c).after 9 t = outMsg W c t := by dsimp only [data]
theorem after_10 (c : Dev nD) (t : Fin cfg0.N) : (data W c).after 10 t = outRow W c t := by dsimp only [data]
theorem after_11 (c : Dev nD) (t : Fin cfg0.N) : (data W c).after 11 t = outCol W c t := by dsimp only [data]

/-! An input window finds its block in its staging buffer at every point. -/

theorem found_0 (c : Dev nD) (t : Fin cfg0.N) (d) : (data W c).before 0 t d = blk W c 0 t :=
  ((data W c).before_in_eq_fetched 0 rfl (fun _ => rfl) (fun _ _ _ => rfl)
    (fun t => by rw [after_0]; unfold Dat.blockOf blk; rw [data_A]; try rfl) t d).trans
    (by unfold Dat.fetched Dat.blockOf blk; rw [data_A]; try rfl)
theorem found_1 (c : Dev nD) (t : Fin cfg0.N) (d) : (data W c).before 1 t d = blk W c 1 t :=
  ((data W c).before_in_eq_fetched 1 rfl (fun _ => rfl) (fun _ _ _ => rfl)
    (fun t => by rw [after_1]; unfold Dat.blockOf blk; rw [data_A]; try rfl) t d).trans
    (by unfold Dat.fetched Dat.blockOf blk; rw [data_A]; try rfl)
theorem found_2 (c : Dev nD) (t : Fin cfg0.N) (d) : (data W c).before 2 t d = blk W c 2 t :=
  ((data W c).before_in_eq_fetched 2 rfl (fun _ => rfl) (fun _ _ _ => rfl)
    (fun t => by rw [after_2]; unfold Dat.blockOf blk; rw [data_A]; try rfl) t d).trans
    (by unfold Dat.fetched Dat.blockOf blk; rw [data_A]; try rfl)
theorem found_3 (c : Dev nD) (t : Fin cfg0.N) (d) : (data W c).before 3 t d = blk W c 3 t :=
  ((data W c).before_in_eq_fetched 3 rfl (fun _ => rfl) (fun _ _ _ => rfl)
    (fun t => by rw [after_3]; unfold Dat.blockOf blk; rw [data_A]; try rfl) t d).trans
    (by unfold Dat.fetched Dat.blockOf blk; rw [data_A]; try rfl)
theorem found_4 (c : Dev nD) (t : Fin cfg0.N) (d) : (data W c).before 4 t d = blk W c 4 t :=
  ((data W c).before_in_eq_fetched 4 rfl (fun _ => rfl) (fun _ _ _ => rfl)
    (fun t => by rw [after_4]; unfold Dat.blockOf blk; rw [data_A]; try rfl) t d).trans
    (by unfold Dat.fetched Dat.blockOf blk; rw [data_A]; try rfl)
theorem found_5 (c : Dev nD) (t : Fin cfg0.N) (d) : (data W c).before 5 t d = blk W c 5 t :=
  ((data W c).before_in_eq_fetched 5 rfl (fun _ => rfl) (fun _ _ _ => rfl)
    (fun t => by rw [after_5]; unfold Dat.blockOf blk; rw [data_A]; try rfl) t d).trans
    (by unfold Dat.fetched Dat.blockOf blk; rw [data_A]; try rfl)
theorem found_6 (c : Dev nD) (t : Fin cfg0.N) (d) : (data W c).before 6 t d = blk W c 6 t :=
  ((data W c).before_in_eq_fetched 6 rfl (fun _ => rfl) (fun _ _ _ => rfl)
    (fun t => by rw [after_6]; unfold Dat.blockOf blk; rw [data_A]; try rfl) t d).trans
    (by unfold Dat.fetched Dat.blockOf blk; rw [data_A]; try rfl)
theorem found_7 (c : Dev nD) (t : Fin cfg0.N) (d) : (data W c).before 7 t d = blk W c 7 t :=
  ((data W c).before_in_eq_fetched 7 rfl (fun _ => rfl) (fun _ _ _ => rfl)
    (fun t => by rw [after_7]; unfold Dat.blockOf blk; rw [data_A]; try rfl) t d).trans
    (by unfold Dat.fetched Dat.blockOf blk; rw [data_A]; try rfl)
theorem found_8 (c : Dev nD) (t : Fin cfg0.N) (d) : (data W c).before 8 t d = blk W c 8 t :=
  ((data W c).before_in_eq_fetched 8 rfl (fun _ => rfl) (fun _ _ _ => rfl)
    (fun t => by rw [after_8]; unfold Dat.blockOf blk; rw [data_A]; try rfl) t d).trans
    (by unfold Dat.fetched Dat.blockOf blk; rw [data_A]; try rfl)

/-! ## The branches the body takes, by the point's number -/

theorem atFirst_iff (t : Fin cfg0.N) : atFirst (grid0.coords t) ↔ t.val % 16 = 0 := by
  have ht : t.val < 64 := Nat.lt_of_lt_of_eq t.isLt N_0
  have e1 : (grid0.coords t 1).val = t.val / 1 % 16 := Pipeline.Grid.coords_val t 1 (by decide) rfl
  unfold atFirst
  simp only [e1]
  word_cmp

theorem starts_iff (t : Fin cfg0.N) : k0_cond2 (grid0.coords t) = 1#1 ↔ t.val % 16 = 0 := by
  have ht : t.val < 64 := Nat.lt_of_lt_of_eq t.isLt N_0
  have e1 : (grid0.coords t 1).val = t.val / 1 % 16 := Pipeline.Grid.coords_val t 1 (by decide) rfl
  simp only [k0_cond2, e1]
  word_cmp

theorem adds_iff (t : Fin cfg0.N) : k0_cond3 (grid0.coords t) = 1#1 ↔ 1 ≤ t.val % 16 := by
  have ht : t.val < 64 := Nat.lt_of_lt_of_eq t.isLt N_0
  have e1 : (grid0.coords t 1).val = t.val / 1 % 16 := Pipeline.Grid.coords_val t 1 (by decide) rfl
  simp only [k0_cond3, e1]
  word_cmp

/-- The window of the sums over the first end is stored into at every point. -/
theorem live_11 : ∀ t : Fin cfg0.N, cfg0.idle 11 (grid0.coords t) = false := by decide +kernel

/-- Its staging buffer starts anew after the points whose number plus one is a multiple of sixteen. -/
def anew : ℕ → Bool
  | 0 => true
  | n + 1 => (0x8000800080008000 : ℕ).testBit n

theorem anew_step : ∀ t : Fin cfg0.N,
    anew (t.val + 1) = ((cfg0.win 11).flush t || (cfg0.idle 11 (cfg0.grid.coords t) && anew t.val)) := by decide +kernel

theorem anew_eq (t : Fin cfg0.N) : cfg0.fresh 11 t.val = anew t.val :=
  Pipeline.Cfg.fresh_tab cfg0 11 anew rfl anew_step t.val (Nat.le_of_lt t.isLt)

theorem not_anew : ∀ t : Fin cfg0.N, ¬ t.val % 16 = 0 → cfg0.fresh 11 t.val = false := by
  intro t; rw [anew_eq t]; revert t; decide +kernel

/-- At a point that is not its batch's first, that staging buffer holds what the point before left. -/
theorem found_11 (c : Dev nD) (t : Fin cfg0.N) (h : ¬ t.val % 16 = 0) (d) : (data W c).before 11 t d = outCol W c (prev t) := by
  rw [Dat.before_out_traj _ 11 rfl (fun _ _ => rfl) (fun t _ hi _ => absurd ((live_11 t).symm.trans hi) Bool.false_ne_true) t.val t rfl d,
    if_neg (by rw [not_anew t h]; exact Bool.false_ne_true)]
  dsimp only [data]; rfl

/-! ## The body at a point -/

/-- What the body is called with at point `t`. -/
def before (c : Dev nD) (t : Fin cfg0.N) : sProp 𝕄 :=
  iprop((data W c).Φ t.castSucc ∗ (data W c).owesAt () t.castSucc
    ∗ (∃ d, owns (c : Thread nD τ) (st0_0 t) fullShare ((data W c).before 0 t d))
    ∗ (∃ d, owns (c : Thread nD τ) (st0_1 t) fullShare ((data W c).before 1 t d))
    ∗ (∃ d, owns (c : Thread nD τ) (st0_2 t) fullShare ((data W c).before 2 t d))
    ∗ (∃ d, owns (c : Thread nD τ) (st0_3 t) fullShare ((data W c).before 3 t d))
    ∗ (∃ d, owns (c : Thread nD τ) (st0_4 t) fullShare ((data W c).before 4 t d))
    ∗ (∃ d, owns (c : Thread nD τ) (st0_5 t) fullShare ((data W c).before 5 t d))
    ∗ (∃ d, owns (c : Thread nD τ) (st0_6 t) fullShare ((data W c).before 6 t d))
    ∗ (∃ d, owns (c : Thread nD τ) (st0_7 t) fullShare ((data W c).before 7 t d))
    ∗ (∃ d, owns (c : Thread nD τ) (st0_8 t) fullShare ((data W c).before 8 t d))
    ∗ (∃ d, owns (c : Thread nD τ) (st0_9 t) fullShare ((data W c).before 9 t d))
    ∗ (∃ d, owns (c : Thread nD τ) (st0_10 t) fullShare ((data W c).before 10 t d))
    ∗ (∃ d, owns (c : Thread nD τ) (st0_11 t) fullShare ((data W c).before 11 t d)))

/-- What it returns. -/
def after (c : Dev nD) (t : Fin cfg0.N) : sProp 𝕄 :=
  iprop((data W c).Φ t.succ ∗ (data W c).owesAt () t.succ
    ∗ owns (c : Thread nD τ) (st0_0 t) fullShare ((data W c).after 0 t)
    ∗ owns (c : Thread nD τ) (st0_1 t) fullShare ((data W c).after 1 t)
    ∗ owns (c : Thread nD τ) (st0_2 t) fullShare ((data W c).after 2 t)
    ∗ owns (c : Thread nD τ) (st0_3 t) fullShare ((data W c).after 3 t)
    ∗ owns (c : Thread nD τ) (st0_4 t) fullShare ((data W c).after 4 t)
    ∗ owns (c : Thread nD τ) (st0_5 t) fullShare ((data W c).after 5 t)
    ∗ owns (c : Thread nD τ) (st0_6 t) fullShare ((data W c).after 6 t)
    ∗ owns (c : Thread nD τ) (st0_7 t) fullShare ((data W c).after 7 t)
    ∗ owns (c : Thread nD τ) (st0_8 t) fullShare ((data W c).after 8 t)
    ∗ owns (c : Thread nD τ) (st0_9 t) fullShare ((data W c).after 9 t)
    ∗ owns (c : Thread nD τ) (st0_10 t) fullShare ((data W c).after 10 t)
    ∗ (data W c).leavesExact 11 t)

theorem leaves_11 (c : Dev nD) (t : Fin cfg0.N) : (data W c).leavesExact 11 t = owns (c : Thread nD τ) (st0_11 t) fullShare (outCol W c t) := by
  unfold Dat.leavesExact; rw [live_11 t, after_11]

set_option maxHeartbeats 4000000 in
/-- The body at any point leads from the one to the other. -/
theorem body_sound (c : Dev nD) (t : Fin cfg0.N) :
    before W c t ⊢ wp frame (wpE (defs₀ (F := F)) Variants.none c none) Set.univ (bodyAt0 t) (fun _ => after W c t) := by
  unfold before after bodyAt0
  simp only [found_0, found_1, found_2, found_3, found_4, found_5, found_6, found_7, found_8]
  rw [inv_after, inv_before, leaves_11, show (data W c).owesAt () t.succ = (data W c).owesAt () t.castSucc from rfl,
    after_0, after_1, after_2, after_3, after_4, after_5, after_6, after_7, after_8, after_9, after_10]
  by_cases h : t.val % 16 = 0
  · rw [outCol_first W c t h]
    unfold outMsg outRow
    rw [kept_first W c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HΦ' := inv_scoped W c t.val (Nat.le_of_lt t.isLt) $$ HΦ
    icases HΦ' with ⟨HS, Hx⟩
    iapply (run_first c (grid0.coords t) _ _ _ _ _ _ _ _ _ _ _ _ _ _ _ _ _ _ _ _ _ _ _ _ _ _ ((atFirst_iff t).mpr h) ((starts_iff t).mpr h)
      (fun hh => by have := (adds_iff t).mp hh; omega)
      (blk W c 0 t) (blk W c 1 t) (blk W c 2 t) (blk W c 3 t) (blk W c 4 t) (blk W c 5 t) (blk W c 6 t) (blk W c 7 t) (blk W c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS Hx]
    · isplitl [HS]; · iexact HS
      iexact Hx
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [found_11 W c t h]
    rw [outCol_next W c t h, inv_later W c t h]
    unfold outMsg outRow
    iintro ⟨⟨HS, Hx⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_next c (grid0.coords t) _ _ _ _ _ _ _ _ _ _ _ _ _ _ _ _ _ _ _ _ _ _ _ _ _ _ (fun hh => h ((atFirst_iff t).mp hh))
      (fun hh => h ((starts_iff t).mp hh)) ((adds_iff t).mpr (by omega))
      (blk W c 0 t) (blk W c 1 t) (blk W c 2 t) (blk W c 3 t) (blk W c 4 t) (blk W c 5 t) (blk W c 6 t) (blk W c 7 t) (blk W c 8 t)
      (outCol W c (prev t)) (kept W c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [HS]; · iexact HS
    iintro ⟨H0, H1, H2, H3, H4, H5, H6, H7, H8, H9, H10, H11, HS⟩
    isplitl [HS Hx]
    · isplitl [HS]; · iexact HS
      iexact Hx
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body the region calls at a point is the printed one on the point's staging buffers. -/
theorem body_row (t : Fin cfg0.N) : defs₀ (F := F) .tc cfg0.body (cfg0.bodyArgs t (cfg0.slots t)) = bodyAt0 t := by
  unfold defs₀; rw [Defs.onTc_tc]

/-- The region's obligation about its body. -/
theorem obligation (c : Dev nD) : BodyObligation (data (F := F) W c) (defs₀ (F := F)) Variants.none () Set.univ := fun t => by
  rw [bigSep_W0, bigSep_W0, body_row]
  exact triple_restated (body_sound W c t) rfl .rfl fun _ => .rfl

end Cert.KernelIdeal.Edge

end
-- ==== Proof.Node.Step.lean ====
/-
The node kernel's body, run once.

One grid point of the node kernel takes a batch's vertex rows, the two sums the edge kernel left for
the batch, and the weights, and writes the batch's new vertex rows.
-/
module

public import proofs.«01_k».proof.Proof.Edge.Step
public import Idealize.ShloMosaic.Lib.WholeRead
public import Idealize.ShloMosaic.Lib.VecWindow
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Node

open Cert.KernelIdeal Cert.KernelIdeal.Gen Cert.KernelIdeal.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Columns `o` to `o + 7` of the one row of message biases. -/
def bias (x5 : Vec F S1x24 .f32) {off : Fin 2 → ℕ} (inb : ∀ i, off i + S1x8.size i ≤ S1x24.size i) : Vec F S1x8 .f32 :=
  fun y => x5 ((Rect.unit (s := S1x24) off S1x8.size inb).toLoadRect.idx y)

/-- The new vertex rows of a batch. -/
def rows (x0 x1 x2 : Vec F S1x1024x8 .f32) (x3 : Vec F S24x24 .f32) (x4 : Vec F S24x8 .f32) (x5 : Vec F S1x24 .f32) (x6 : Vec F S1x8 .f32) :
    Vec F S1x1024x8 .f32 :=
  k1_pay1 (k1_pay2 x0) (k1_pay4 x0 x1 x3 (bias x5 inb_S1x24_S1x8_0_0)) (k1_pay5 x0 x3) (k1_pay6 x2 x3) (bias x5 inb_S1x24_S1x8_0_8) x4 x6

theorem rows_eq {a0 x0 a1 x1 a2 x2 : Vec F S1x1024x8 .f32} {a3 x3 : Vec F S24x24 .f32} {a4 x4 : Vec F S24x8 .f32}
    {x5 : Vec F S1x24 .f32} {u v : Vec F S1x8 .f32} {a6 x6 : Vec F S1x8 .f32}
    (h0 : a0 = x0) (h1 : a1 = x1) (h2 : a2 = x2) (h3 : a3 = x3) (h4 : a4 = x4)
    (hu : u = bias x5 inb_S1x24_S1x8_0_0) (hv : v = bias x5 inb_S1x24_S1x8_0_8) (h6 : a6 = x6) :
    k1_pay1 (k1_pay2 a0) (k1_pay4 a0 a1 a3 u) (k1_pay5 a0 a3) (k1_pay6 a2 a3) v a4 a6 = rows x0 x1 x2 x3 x4 x5 x6 := by
  subst h0 h1 h2 h3 h4 hu hv h6; rfl

/-- A load of eight columns of the bias row, the row held at the contents that read `v`. -/
theorem load_bias (a : Memref sig .tc .vmem S1x24 .f32) (ha : a.IsWhole) (v : Vec F S1x24 .f32) {off : Fin 2 → ℕ}
    (inb : ∀ i, off i + S1x8.size i ≤ S1x24.size i) :
    a.view.readAt (Elt F) (Rect.unit (s := S1x24) off S1x8.size inb).toLoadRect (ha.unread v) = bias v inb :=
  funext fun y => ha.readAt_unread v _ y

set_option maxHeartbeats 1000000 in
/-- The body stores the new vertex rows and leaves its inputs as they were. -/
theorem run (c : Dev nD) (i : grid1.Coords)
    (arg1 : Memref sig .tc .vmem S1x1024x8 .f32) (harg1 : arg1.IsWhole) (arg2 : Memref sig .tc .vmem S1x1024x8 .f32) (harg2 : arg2.IsWhole)
    (arg3 : Memref sig .tc .vmem S1x1024x8 .f32) (harg3 : arg3.IsWhole) (arg4 : Memref sig .tc .vmem S24x24 .f32) (harg4 : arg4.IsWhole)
    (arg5 : Memref sig .tc .vmem S24x8 .f32) (harg5 : arg5.IsWhole) (arg6 : Memref sig .tc .vmem S1x24 .f32) (harg6 : arg6.IsWhole)
    (arg7 : Memref sig .tc .vmem S1x8 .f32) (harg7 : arg7.IsWhole) (arg8 : Memref sig .tc .vmem S1x1024x8 .f32) (harg8 : arg8.IsWhole)
    (x0 x1 x2 : Vec F S1x1024x8 .f32) (x3 : Vec F S24x24 .f32) (x4 : Vec F S24x8 .f32) (x5 : Vec F S1x24 .f32) (x6 : Vec F S1x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (rows x0 x1 x2 x3 x4 x5 x6)) -∗ K ⟨⟩))
      ⊢ wp frame (wpE (defs₀ (F := F)) Variants.none c none) E
          (cc1__node_body i arg1 harg1 arg2 harg2 arg3 harg3 arg4 harg4 arg5 harg5 arg6 harg6 arg7 harg7 arg8 harg8) K := by
  simp only [cc1__node_body_eq_skeleton]; unfold cc1__node_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr; rotate_left
  · iexact H7
  ipureintro
  refine stored _ _ _ _ _ ?_

  refine rows_eq (x5 := x5) ?_ ?_ ?_ ?_ ?_ ?_ ?_ ?_
  · exact load_unread arg1 harg1 x0 _
  · exact load_unread arg2 harg2 x1 _
  · exact load_unread arg3 harg3 x2 _
  · exact load_unread arg4 harg4 x3 _
  · exact load_unread arg5 harg5 x4 _
  · exact load_bias arg6 harg6 x5 _
  · exact load_bias arg6 harg6 x5 _
  · exact load_unread arg7 harg7 x6 _

end Cert.KernelIdeal.Node

end
-- ==== Proof.Node.Region.lean ====
/-
The node kernel's region: four points, one per batch, each storing its batch's new vertex rows.

The region is stated over any contents `W` of the buffers it finds, so that the surrounding program
can enter it after whatever its host operations and the edge kernel left.
-/
module

public import proofs.«01_k».proof.Proof.Node.Step
public import Idealize.ShloMosaic.Lib.Pipeline.RegionArraysS

@[expose] public section

set_option maxRecDepth 16384

noncomputable section

namespace Cert.KernelIdeal.Node

open Cert.KernelIdeal Cert.KernelIdeal.Gen Cert.KernelIdeal.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The block of window `w`'s array that point `t` works on. -/
def blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What point `t` stores: the new vertex rows of its batch. -/
def result (c : Dev nD) (t : Fin cfg1.N) : Vec F S1x1024x8 .f32 :=
  rows (blk W c 0 t) (blk W c 1 t) (blk W c 2 t) (blk W c 3 t) (blk W c 4 t) (blk W c 5 t) (blk W c 6 t)

/-- The region's data: the arrays as found; every input left in place, the output at `result`. -/
def data (c : Dev nD) : Dat τ (Elt F) Unit ℕ (UR sig nD τ) ℕ cfg1 c where
  A w := W c (Proc.devRef .tc (Pipeline.arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => result W c t
  Φ _ := Pipeline.scopedRest spec1 c
  q _ := fullShare
  owed _ := 0

theorem data_A (c : Dev nD) (w : Fin cfg1.W) : (data W c).A w = W c (Proc.devRef .tc (Pipeline.arrRef spec1 w)) := by
  dsimp only [data]

theorem after_0 (c : Dev nD) (t : Fin cfg1.N) : (data W c).after 0 t = blk W c 0 t := by dsimp only [data]
theorem after_1 (c : Dev nD) (t : Fin cfg1.N) : (data W c).after 1 t = blk W c 1 t := by dsimp only [data]
theorem after_2 (c : Dev nD) (t : Fin cfg1.N) : (data W c).after 2 t = blk W c 2 t := by dsimp only [data]
theorem after_3 (c : Dev nD) (t : Fin cfg1.N) : (data W c).after 3 t = blk W c 3 t := by dsimp only [data]
theorem after_4 (c : Dev nD) (t : Fin cfg1.N) : (data W c).after 4 t = blk W c 4 t := by dsimp only [data]
theorem after_5 (c : Dev nD) (t : Fin cfg1.N) : (data W c).after 5 t = blk W c 5 t := by dsimp only [data]
theorem after_6 (c : Dev nD) (t : Fin cfg1.N) : (data W c).after 6 t = blk W c 6 t := by dsimp only [data]
theorem after_7 (c : Dev nD) (t : Fin cfg1.N) : (data W c).after 7 t = result W c t := by dsimp only [data]

/-! An input window finds its block in its staging buffer at every point. -/

theorem found_0 (c : Dev nD) (t : Fin cfg1.N) (d) : (data W c).before 0 t d = blk W c 0 t :=
  ((data W c).before_in_eq_fetched 0 rfl (fun _ => rfl) (fun _ _ _ => rfl)
    (fun t => by rw [after_0]; unfold Dat.blockOf blk; rw [data_A]; try rfl) t d).trans
    (by unfold Dat.fetched Dat.blockOf blk; rw [data_A]; try rfl)
theorem found_1 (c : Dev nD) (t : Fin cfg1.N) (d) : (data W c).before 1 t d = blk W c 1 t :=
  ((data W c).before_in_eq_fetched 1 rfl (fun _ => rfl) (fun _ _ _ => rfl)
    (fun t => by rw [after_1]; unfold Dat.blockOf blk; rw [data_A]; try rfl) t d).trans
    (by unfold Dat.fetched Dat.blockOf blk; rw [data_A]; try rfl)
theorem found_2 (c : Dev nD) (t : Fin cfg1.N) (d) : (data W c).before 2 t d = blk W c 2 t :=
  ((data W c).before_in_eq_fetched 2 rfl (fun _ => rfl) (fun _ _ _ => rfl)
    (fun t => by rw [after_2]; unfold Dat.blockOf blk; rw [data_A]; try rfl) t d).trans
    (by unfold Dat.fetched Dat.blockOf blk; rw [data_A]; try rfl)
theorem found_3 (c : Dev nD) (t : Fin cfg1.N) (d) : (data W c).before 3 t d = blk W c 3 t :=
  ((data W c).before_in_eq_fetched 3 rfl (fun _ => rfl) (fun _ _ _ => rfl)
    (fun t => by rw [after_3]; unfold Dat.blockOf blk; rw [data_A]; try rfl) t d).trans
    (by unfold Dat.fetched Dat.blockOf blk; rw [data_A]; try rfl)
theorem found_4 (c : Dev nD) (t : Fin cfg1.N) (d) : (data W c).before 4 t d = blk W c 4 t :=
  ((data W c).before_in_eq_fetched 4 rfl (fun _ => rfl) (fun _ _ _ => rfl)
    (fun t => by rw [after_4]; unfold Dat.blockOf blk; rw [data_A]; try rfl) t d).trans
    (by unfold Dat.fetched Dat.blockOf blk; rw [data_A]; try rfl)
theorem found_5 (c : Dev nD) (t : Fin cfg1.N) (d) : (data W c).before 5 t d = blk W c 5 t :=
  ((data W c).before_in_eq_fetched 5 rfl (fun _ => rfl) (fun _ _ _ => rfl)
    (fun t => by rw [after_5]; unfold Dat.blockOf blk; rw [data_A]; try rfl) t d).trans
    (by unfold Dat.fetched Dat.blockOf blk; rw [data_A]; try rfl)
theorem found_6 (c : Dev nD) (t : Fin cfg1.N) (d) : (data W c).before 6 t d = blk W c 6 t :=
  ((data W c).before_in_eq_fetched 6 rfl (fun _ => rfl) (fun _ _ _ => rfl)
    (fun t => by rw [after_6]; unfold Dat.blockOf blk; rw [data_A]; try rfl) t d).trans
    (by unfold Dat.fetched Dat.blockOf blk; rw [data_A]; try rfl)

/-- What the body is called with at point `t`. -/
def before (c : Dev nD) (t : Fin cfg1.N) : sProp 𝕄 :=
  iprop((data W c).Φ t.castSucc ∗ (data W c).owesAt () t.castSucc
    ∗ (∃ d, owns (c : Thread nD τ) (st1_0 t) fullShare ((data W c).before 0 t d))
    ∗ (∃ d, owns (c : Thread nD τ) (st1_1 t) fullShare ((data W c).before 1 t d))
    ∗ (∃ d, owns (c : Thread nD τ) (st1_2 t) fullShare ((data W c).before 2 t d))
    ∗ (∃ d, owns (c : Thread nD τ) (st1_3 t) fullShare ((data W c).before 3 t d))
    ∗ (∃ d, owns (c : Thread nD τ) (st1_4 t) fullShare ((data W c).before 4 t d))
    ∗ (∃ d, owns (c : Thread nD τ) (st1_5 t) fullShare ((data W c).before 5 t d))
    ∗ (∃ d, owns (c : Thread nD τ) (st1_6 t) fullShare ((data W c).before 6 t d))
    ∗ (∃ d, owns (c : Thread nD τ) (st1_7 t) fullShare ((data W c).before 7 t d)))

/-- What it returns. -/
def after (c : Dev nD) (t : Fin cfg1.N) : sProp 𝕄 :=
  iprop((data W c).Φ t.succ ∗ (data W c).owesAt () t.succ
    ∗ owns (c : Thread nD τ) (st1_0 t) fullShare ((data W c).after 0 t)
    ∗ owns (c : Thread nD τ) (st1_1 t) fullShare ((data W c).after 1 t)
    ∗ owns (c : Thread nD τ) (st1_2 t) fullShare ((data W c).after 2 t)
    ∗ owns (c : Thread nD τ) (st1_3 t) fullShare ((data W c).after 3 t)
    ∗ owns (c : Thread nD τ) (st1_4 t) fullShare ((data W c).after 4 t)
    ∗ owns (c : Thread nD τ) (st1_5 t) fullShare ((data W c).after 5 t)
    ∗ owns (c : Thread nD τ) (st1_6 t) fullShare ((data W c).after 6 t)
    ∗ owns (c : Thread nD τ) (st1_7 t) fullShare ((data W c).after 7 t))

set_option maxHeartbeats 1000000 in
/-- The body at any point leads from the one to the other. -/
theorem body_sound (c : Dev nD) (t : Fin cfg1.N) :
    before W c t ⊢ wp frame (wpE (defs₀ (F := F)) Variants.none c none) Set.univ (bodyAt1 t) (fun _ => after W c t) := by
  unfold before after bodyAt1
  simp only [found_0, found_1, found_2, found_3, found_4, found_5, found_6]
  rw [show (data W c).Φ t.succ = (data W c).Φ t.castSucc from rfl,
    show (data W c).owesAt () t.succ = (data W c).owesAt () t.castSucc from rfl,
    after_0, after_1, after_2, after_3, after_4, after_5, after_6, after_7]
  unfold result
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid1.coords t) _ _ _ _ _ _ _ _ _ _ _ _ _ _ _ _ (blk W c 0 t) (blk W c 1 t) (blk W c 2 t) (blk W c 3 t) (blk W c 4 t)
    (blk W c 5 t) (blk W c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the region calls at a point is the printed one on the point's staging buffers. -/
theorem body_row (t : Fin cfg1.N) : defs₀ (F := F) .tc cfg1.body (cfg1.bodyArgs t (cfg1.slots t)) = bodyAt1 t := by
  unfold defs₀; rw [Defs.onTc_tc]

/-- The region's obligation about its body. -/
theorem obligation (c : Dev nD) : BodyObligation (data (F := F) W c) (defs₀ (F := F)) Variants.none () Set.univ := fun t => by
  rw [bigSep_W1, bigSep_W1, body_row]
  exact triple_restated (body_sound W c t) rfl .rfl fun _ => .rfl

end Cert.KernelIdeal.Node

end
-- ==== Proof.Run.lean ====
/-
The run of the whole kernel program: the host operations, the edge kernel's region, the node kernel's, and the
final reshape. From any memory, every execution ends, and every buffer of the program ends at the contents `V11`
says, the regions having left the arrays their data names.
-/
module

public import proofs.«01_k».proof.Proof.Edge.Region
public import proofs.«01_k».proof.Proof.Node.Region
public import proofs.«01_k».proof.Proof.Gen.KernelIdeal.Regions

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg RegionSeg)

variable {F : FTy → Type} [FloatOps F]

local notation "𝕄" => MT nD τ sig Unit (Elt F) ℕ (UR sig nD τ) ℕ

/-! ## The two regions, over any contents they find -/

section Regions

variable (W₀ W₁ : Dev nD → Valuation τ sig (Elt F))

/-- The two regions' data. -/
def both : (p : Fin 2) → (c : Dev nD) → Dat τ (Elt F) Unit ℕ (UR sig nD τ) ℕ (cfgs p) c
  | ⟨0, _⟩ => Edge.data W₀
  | ⟨1, _⟩ => Node.data W₁

/-- Each TensorCore's semaphores carry one level, which nothing owed lies above. -/
def L : GSem nD τ sig → Finset Unit := fun g => if g.1.2 = .tc then {()} else ∅
def lv : GSem nD τ sig → Unit → ℕ := fun _ _ => 0

/-- What rides beside the buffers: the core owes nothing. -/
def rest (_ : Fin 3) (c : Dev nD) : sProp 𝕄 := iprop(∃ W, owes (c : Thread nD τ) (0 : CellTallies nD τ sig Unit) W)

theorem cut (p : Fin 2) : Pipeline.LevelCut (pcfgs (F := F)) adm () L lv p (fun _ => 0) (fun _ => 0) where
  hι _ _ _ := Finset.mem_singleton.mpr rfl
  hιb _ _ _ := Nat.le_refl _
  hD _ _ _ h := absurd h (lt_irrefl 0)

theorem edge_in (c : Dev nD) : iprop((Pipeline.scopedRest spec0 c : sProp 𝕄) ∗ emp) ⊢ (Edge.data W₀ c).Φ 0 := by
  show _ ⊢ (Pipeline.scopedRest spec0 c : sProp 𝕄)
  iintro ⟨H, -⟩
  iexact H

theorem edge_out (c : Dev nD) : (Edge.data W₀ c).Φ (Fin.last cfg0.N) ⊢ iprop((Pipeline.scopedRest spec0 c : sProp 𝕄) ∗ emp) := by
  show Edge.inv W₀ c cfg0.N (Nat.le_refl _) ⊢ _
  iintro H
  isplitl [H]
  · rw [Edge.scoped_eq]
    iapply (Edge.inv_scoped W₀ c cfg0.N (Nat.le_refl _))
    iexact H
  iempintro

theorem node_in (c : Dev nD) : iprop((Pipeline.scopedRest spec1 c : sProp 𝕄) ∗ emp) ⊢ (Node.data W₁ c).Φ 0 := by
  show _ ⊢ (Pipeline.scopedRest spec1 c : sProp 𝕄)
  iintro ⟨H, -⟩
  iexact H

theorem node_out (c : Dev nD) : (Node.data W₁ c).Φ (Fin.last cfg1.N) ⊢ iprop((Pipeline.scopedRest spec1 c : sProp 𝕄) ∗ emp) := by
  show (Pipeline.scopedRest spec1 c : sProp 𝕄) ⊢ _
  iintro H
  isplitl [H]; · iexact H
  iempintro

/-- The edge kernel's region. -/
def edgeRegion : RegionSeg (pcfgs (F := F)) adm (both W₀ W₁) () defs₀ Variants.none L lv 0 :=
  RegionSeg.ofHeldIn pcfgs adm (both W₀ W₁) () defs₀ Variants.none L lv 0 (fun _ => 0) (Pipeline.ucRefs τ sig) (fun _ => iprop(emp)) (fun _ => iprop(emp))
    (launch0.toP) rfl (fun c => (Edge.obligation W₀ c).loose) (fun _ _ => rfl) (fun _ => rfl)
    (fun c w => (Edge.data W₀ c).share_full (fun _ => rfl) w) (edge_in W₀) (edge_out W₀) (fun _ => 0) (cut 0) (fun _ => iprop(emp)) W₀
    (fun c w => Edge.data_A W₀ c w)

/-- The node kernel's region. -/
def nodeRegion : RegionSeg (pcfgs (F := F)) adm (both W₀ W₁) () defs₀ Variants.none L lv 1 :=
  RegionSeg.ofHeldIn pcfgs adm (both W₀ W₁) () defs₀ Variants.none L lv 1 (fun _ => 0) (Pipeline.ucRefs τ sig) (fun _ => iprop(emp)) (fun _ => iprop(emp))
    (launch1.toP) rfl (fun c => (Node.obligation W₁ c).loose) (fun _ _ => rfl) (fun _ => rfl)
    (fun c w => (Node.data W₁ c).share_full (fun _ => rfl) w) (node_in W₁) (node_out W₁) (fun _ => 0) (cut 1) (fun _ => iprop(emp)) W₁
    (fun c w => Node.data_A W₁ c w)

theorem edge_outputs : ∀ w : Fin cfg0.W, (cfg0.win w).isOut = true →
    Pipeline.arrRef spec0 w ∈ ([main_v56_0, main_v56_1, main_v56_2] : List (Ref sig .tc)) := by decide

theorem node_outputs : ∀ w : Fin cfg1.W, (cfg1.win w).isOut = true → Pipeline.arrRef spec1 w ∈ ([main_v60] : List (Ref sig .tc)) := by decide

theorem edge_arrays : Pipeline.arrRefs (τ := τ) (pcfgs (F := F) 0).spec ⊆ Pipeline.ucRefs τ sig := Pipeline.arrRefs_sub_ucRefs spec0 (by decide)
theorem node_arrays : Pipeline.arrRefs (τ := τ) (pcfgs (F := F) 1).spec ⊆ Pipeline.ucRefs τ sig := Pipeline.arrRefs_sub_ucRefs spec1 (by decide)

theorem edge_keeps (c : Dev nD) (r : Ref sig .tc) (h : r ∉ ([main_v56_0, main_v56_1, main_v56_2] : List (Ref sig .tc))) :
    Pipeline.afterRegion (Edge.data W₀ c) (W₀ c) (Proc.devRef .tc r) = W₀ c (Proc.devRef .tc r) :=
  Pipeline.afterRegion_keeps _ (W₀ c) launch0.win.arr_inj (Edge.data_A W₀ c) r fun w e =>
    Bool.eq_false_iff.mpr fun hw => h (e ▸ edge_outputs w hw)

theorem node_keeps (c : Dev nD) (r : Ref sig .tc) (h : r ∉ ([main_v60] : List (Ref sig .tc))) :
    Pipeline.afterRegion (Node.data W₁ c) (W₁ c) (Proc.devRef .tc r) = W₁ c (Proc.devRef .tc r) :=
  Pipeline.afterRegion_keeps _ (W₁ c) launch1.win.arr_inj (Node.data_A W₁ c) r fun w e =>
    Bool.eq_false_iff.mpr fun hw => h (e ▸ node_outputs w hw)

theorem edge_pre (c : Dev nD) :
    iprop(StableHlo.held (c : Thread nD τ) (Pipeline.ucRefs τ sig) (W₀ c) ∗ rest 0 c) ⊢ (edgeRegion W₀ W₁).pre c := by
  unfold edgeRegion
  refine BIBase.Entails.trans ?_ (RegionSeg.ofHeldIn_pre (pcs := pcfgs (F := F)) (a := adm) (pdats := both W₀ W₁) (p := 0) (D := fun _ => 0) (S := Pipeline.ucRefs τ sig) (W := W₀) edge_arrays c)
  unfold rest
  iintro ⟨Hh, HO⟩
  isplitl [Hh]; · iexact Hh
  isplitl [HO]; · iexact HO
  isplitr <;> iempintro

theorem edge_post (c : Dev nD) (V : Valuation τ sig (Elt F)) (hV : ∀ b ∈ Pipeline.ucRefs τ sig, Pipeline.afterRegion (Edge.data W₀ c) (W₀ c) b = V b) :
    (edgeRegion W₀ W₁).post c ⊢ iprop(StableHlo.held (c : Thread nD τ) (Pipeline.ucRefs τ sig) V ∗ rest 1 c) := by
  unfold edgeRegion
  refine BIBase.Entails.trans (RegionSeg.ofHeldIn_post (pcs := pcfgs (F := F)) (a := adm) (pdats := both W₀ W₁) (p := 0) (D := fun _ => 0) (S := Pipeline.ucRefs τ sig) (W := W₀) edge_arrays c) ?_
  have hV' : ∀ b ∈ Pipeline.ucRefs τ sig, Pipeline.afterRegion (both W₀ W₁ 0 c) (W₀ c) b = V b := hV
  rw [StableHlo.held_congr (c.tc : Thread nD τ) hV']
  unfold rest
  iintro ⟨Hh, HO, -⟩
  isplitl [Hh]; · iexact Hh
  iexact HO

theorem node_pre (c : Dev nD) :
    iprop(StableHlo.held (c : Thread nD τ) (Pipeline.ucRefs τ sig) (W₁ c) ∗ rest 1 c) ⊢ (nodeRegion W₀ W₁).pre c := by
  unfold nodeRegion
  refine BIBase.Entails.trans ?_ (RegionSeg.ofHeldIn_pre (pcs := pcfgs (F := F)) (a := adm) (pdats := both W₀ W₁) (p := 1) (D := fun _ => 0) (S := Pipeline.ucRefs τ sig) (W := W₁) node_arrays c)
  unfold rest
  iintro ⟨Hh, HO⟩
  isplitl [Hh]; · iexact Hh
  isplitl [HO]; · iexact HO
  isplitr <;> iempintro

theorem node_post (c : Dev nD) (V : Valuation τ sig (Elt F)) (hV : ∀ b ∈ Pipeline.ucRefs τ sig, Pipeline.afterRegion (Node.data W₁ c) (W₁ c) b = V b) :
    (nodeRegion W₀ W₁).post c ⊢ iprop(StableHlo.held (c : Thread nD τ) (Pipeline.ucRefs τ sig) V ∗ rest 2 c) := by
  unfold nodeRegion
  refine BIBase.Entails.trans (RegionSeg.ofHeldIn_post (pcs := pcfgs (F := F)) (a := adm) (pdats := both W₀ W₁) (p := 1) (D := fun _ => 0) (S := Pipeline.ucRefs τ sig) (W := W₁) node_arrays c) ?_
  have hV' : ∀ b ∈ Pipeline.ucRefs τ sig, Pipeline.afterRegion (both W₀ W₁ 1 c) (W₁ c) b = V b := hV
  rw [StableHlo.held_congr (c.tc : Thread nD τ) hV']
  unfold rest
  iintro ⟨Hh, HO, -⟩
  isplitl [Hh]; · iexact Hh
  iexact HO

end Regions

/-! ## The contents between the program's items -/

variable (m : (ℓ : Loc nD τ sig) → Buf (Elt F) ℓ) (ρ : Dev nD → PrngReg)

/-- What the edge kernel's region leaves in each buffer. -/
def leftByEdge : Outs (F := F) := fun _ r c => Pipeline.afterRegion (Edge.data (V7 m) c) (V7 m c) (Proc.devRef .tc r)

/-- What the two regions leave: the node kernel's at the tenth item of the program, the edge kernel's before. -/
def left : Outs (F := F)
  | 10, r, c => Pipeline.afterRegion (Node.data (V9 m (leftByEdge m)) c) (V9 m (leftByEdge m) c) (Proc.devRef .tc r)
  | _, r, c => leftByEdge m 0 r c

theorem V8_left (c : Dev nD) : V8 m (left m) c = V8 m (leftByEdge m) c := by
  unfold V8 left leftByEdge; rfl

theorem V9_left (c : Dev nD) : V9 m (left m) c = V9 m (leftByEdge m) c := congrArg (StableHlo.after hostOps1) (V8_left m c)

/-- Every buffer the program holds is one of its references. -/
theorem of_held {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

/-- After the edge kernel's region the buffers are at `V8`. -/
theorem after_edge (c : Dev nD) : ∀ b ∈ Pipeline.ucRefs τ sig, Pipeline.afterRegion (Edge.data (V7 m) c) (V7 m c) b = V8 m (left m) c b := by
  intro b hb
  obtain ⟨r, rfl⟩ := of_held hb
  by_cases h : r ∈ ([main_v56_0, main_v56_1, main_v56_2] : List (Ref sig .tc))
  · simp only [List.mem_cons, List.mem_nil_iff, or_false] at h
    have h01 : (Proc.devRef .tc main_v56_0 : DevRef τ sig) ≠ Proc.devRef .tc main_v56_1 := StableHlo.devRef_ne_of_ne (by decide)
    have h02 : (Proc.devRef .tc main_v56_0 : DevRef τ sig) ≠ Proc.devRef .tc main_v56_2 := StableHlo.devRef_ne_of_ne (by decide)
    have h12 : (Proc.devRef .tc main_v56_1 : DevRef τ sig) ≠ Proc.devRef .tc main_v56_2 := StableHlo.devRef_ne_of_ne (by decide)
    rcases h with rfl | rfl | rfl
    · rw [V8, Function.update_of_ne h02, Function.update_of_ne h01, Function.update_self]; rfl
    · rw [V8, Function.update_of_ne h12, Function.update_self]; rfl
    · rw [V8, Function.update_self]; rfl
  · rw [V8_of m (left m) c r h]
    exact edge_keeps (V7 m) c r h

/-- After the node kernel's region the buffers are at `V10`. -/
theorem after_node (c : Dev nD) : ∀ b ∈ Pipeline.ucRefs τ sig,
    Pipeline.afterRegion (Node.data (V9 m (leftByEdge m)) c) (V9 m (leftByEdge m) c) b = V10 m (left m) c b := by
  intro b hb
  obtain ⟨r, rfl⟩ := of_held hb
  by_cases h : r ∈ ([main_v60] : List (Ref sig .tc))
  · simp only [List.mem_cons, List.mem_nil_iff, or_false] at h
    subst h
    rw [V10, Function.update_self]; rfl
  · rw [V10_of m (left m) c r h, V9_left]
    exact node_keeps (V9 m (leftByEdge m)) c r h

theorem enter_edge (c : Dev nD) : iprop(StableHlo.held (c : Thread nD τ) (Pipeline.ucRefs τ sig) (V7 m c) ∗ rest 0 c)
    ⊢ (edgeRegion (V7 m) (V9 m (leftByEdge m))).pre c := edge_pre (V7 m) (V9 m (leftByEdge m)) c

theorem leave_edge (c : Dev nD) : (edgeRegion (V7 m) (V9 m (leftByEdge m))).post c
    ⊢ iprop(StableHlo.held (c : Thread nD τ) (Pipeline.ucRefs τ sig) (V8 m (left m) c) ∗ rest 1 c) :=
  edge_post (V7 m) (V9 m (leftByEdge m)) c (V8 m (left m) c) (after_edge m c)

theorem enter_node (c : Dev nD) : iprop(StableHlo.held (c : Thread nD τ) (Pipeline.ucRefs τ sig) (V9 m (left m) c) ∗ rest 1 c)
    ⊢ (nodeRegion (V7 m) (V9 m (leftByEdge m))).pre c := by
  rw [V9_left]; exact node_pre (V7 m) (V9 m (leftByEdge m)) c

theorem leave_node (c : Dev nD) : (nodeRegion (V7 m) (V9 m (leftByEdge m))).post c
    ⊢ iprop(StableHlo.held (c : Thread nD τ) (Pipeline.ucRefs τ sig) (V10 m (left m) c) ∗ rest 2 c) :=
  node_post (V7 m) (V9 m (leftByEdge m)) c (V10 m (left m) c) (after_node m c)

/-- The launch element: the staging cells' and the transfers'. -/
def seed : UR sig nD τ := initOf (Pipeline.cells cfgs cellOf_inj) (Pipeline.launchToks cfgs cellOf_inj)

set_option backward.isDefEq.respectTransparency.types false in
/-- Every execution of the program ends, every buffer it holds at `V11`, every semaphore counter at zero. -/
theorem run : θ_run defs (onTc (τ := τ) (main (F := F))) ⟨m, fun _ => 0, ρ⟩ (fun r =>
    (∀ c : Dev nD, ∀ b : Ref sig .tc, Proc.devRef .tc b ∈ Pipeline.ucRefs τ sig → r.2.mem ((c : Thread nD τ).loc b) = V11 m (left m) c b)
      ∧ r.2.sem = fun _ => 0) := by
  refine Pipeline.θ_run_regions_kit_dev_sems (pcfgs (F := F)) adm (both (V7 m) (V9 m (leftByEdge m))) () cellOf_inj emb₁ defs₀ Variants.none L lv m ρ main
    (segs m (left m) Variants.none L lv rest () (both (V7 m) (V9 m (leftByEdge m))) (edgeRegion (V7 m) (V9 m (leftByEdge m))) (nodeRegion (V7 m) (V9 m (leftByEdge m))))
    (fun c Q => by
      rewrite [main_chain c, Seg.run_eq_chain,
        show (segs m (left m) Variants.none L lv rest () (both (V7 m) (V9 m (leftByEdge m))) (edgeRegion (V7 m) (V9 m (leftByEdge m))) (nodeRegion (V7 m) (V9 m (leftByEdge m))) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0
    (fun g hg => if_neg hg) (fun _ => iprop(emp)) seed ?_
    (T₀ := fun c => iprop(StableHlo.held (c : Thread nD τ) (Pipeline.ucRefs τ sig) (V0 m c) ∗ rest 0 c))
    (Tₙ := fun c => StableHlo.held (c : Thread nD τ) (Pipeline.ucRefs τ sig) (V11 m (left m) c))
    (hch := fun c => ⟨.rfl, .rfl, .rfl, .rfl, .rfl, .rfl, .rfl, enter_edge m c, leave_edge m c, enter_node m c, leave_node m c, .rfl⟩)
    (hinit := ?_)
    (QY := fun c s => ∀ b : Ref sig .tc, Proc.devRef .tc b ∈ Pipeline.ucRefs τ sig → s.mem ((c : Thread nD τ).loc b) = V11 m (left m) c b)
    (hfin := fun c s' => ?_) (hQ := fun _ h hz => ⟨h, funext fun g => hz g (.inr (regions_no_unscoped g.2))⟩)
  · -- the launch element is the pipeline library's
    show (BI.own (emb₁ seed) : sProp 𝕄) ⊢ _
    unfold seed
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · -- at launch every core holds its buffers and owes nothing
    refine Pipeline.initEach L lv fun c => ?_
    rw [← Pipeline.unscopedBufs_held (Ix := Unit) (Name := ℕ) (U := UR sig nD τ) (Lvl := ℕ) c (V0 m c)]
    unfold rest
    iintro ⟨⟨Hh, -, HO, -⟩, -⟩
    imodintro
    isplitl [Hh]; · iexact Hh
    iexists ∅; iexact HO
  · -- at the end the buffers are read off what the core holds
    unfold StableHlo.held
    iintro ⟨Hh, HSI⟩
    ihave Hr := (pointsTo_read_all (Pipeline.ucRefs τ sig) (fun b => ((c : Thread nD τ).1, b)) (V11 m (left m) c) s') $$ [Hh HSI]
    · isplitl [Hh] <;> iassumption
    icases Hr with ⟨%h, HSI⟩
    imodintro
    isplitr
    · ipureintro
      exact fun b hb => h (Proc.devRef .tc b) hb
    · iexact HSI

end Cert.KernelIdeal.Run

end
-- ==== Proof.Same.lean ====
/-
The kernel as compiled and the kernel read over the extended reals are one program text at two readings of a float:
no operation was replaced, so over any reading the two programs are equal, and what one's run is proved to do the
other's does.
-/
module

public import proofs.«01_k».proof.Proof.Gen.Kernel
public import proofs.«01_k».proof.Proof.Gen.KernelIdeal

@[expose] public section

set_option maxRecDepth 100000
set_option maxHeartbeats 4000000

namespace Cert.Same

open Idealize.ShloMosaic Cert.Kernel.Gen Cert.KernelIdeal.Gen

variable {F : FTy → Type} [FloatOps F]

/-- The kernels' bodies, by their labels. -/
theorem bodies : Cert.Kernel.defs₀ (F := F) = Cert.KernelIdeal.defs₀ (F := F) := by
  unfold Cert.Kernel.defs₀ Cert.KernelIdeal.defs₀
  refine congrArg Defs.onTc (funext fun i => funext fun x => ?_)
  match i, x with
  | ⟨0, _⟩, (t, s) => rfl
  | ⟨1, _⟩, (t, s) => rfl

/-- The procedures the program calls. -/
theorem procedures : Cert.Kernel.defs (F := F) = Cert.KernelIdeal.defs (F := F) := by
  unfold Cert.Kernel.defs Cert.KernelIdeal.defs
  exact congrArg (Pipeline.defs Cert.KernelIdeal.pcfgs) bodies

/-- The program. -/
theorem text : Cert.Kernel.main (F := F) = Cert.KernelIdeal.main (F := F) := rfl

end Cert.Same

end
-- ==== Proof.Frames.lean ====
/-
The frames of the two readings of the kernel: every execution ends, the arguments as they were and every semaphore
counter at zero.
-/
module

public import proofs.«01_k».proof.Defs
public import proofs.«01_k».proof.Proof.Run
public import proofs.«01_k».proof.Proof.Same
public import proofs.«01_k».proof.Proof.Gen.ReferenceIdeal.Run

@[expose] public section

set_option maxRecDepth 16384

noncomputable section

namespace Cert.Frames

open Idealize.ShloMosaic Idealize.ShloMosaic.TcCoe Idealize.SL.Sem

section Ideal

open Cert.KernelIdeal Cert.KernelIdeal.Gen Cert.KernelIdeal.Run

variable {F : FTy → Type} [FloatOps F] (m : (ℓ : Loc nD τ sig) → Buf (Elt F) ℓ) (ρ : Dev nD → PrngReg)

/-- A reference outside the kernels' own memory is among the buffers the program holds. -/
theorem held_of (b : Ref sig .tc) (h : (Proc.devRef .tc b : DevRef τ sig).isScoped = false) : Proc.devRef .tc b ∈ Pipeline.ucRefs τ sig :=
  Finset.mem_filter.mpr ⟨StableHlo.devRef_mem_tcRefs b, by rw [h]; decide⟩

/-- A memory has the arguments of `m`. -/
def SameArgs (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)

/-- What the run leaves: the arguments, the two results at the last contents, the counters at zero. -/
theorem outcome : θ_run defs (onTc (τ := τ) (main (F := F))) ⟨m, fun _ => 0, ρ⟩ (fun r =>
    (∀ c : Dev nD, SameArgs m r.2 c
      ∧ r.2.mem ((c.tc : Thread nD τ).loc main_v60) = V11 m (left m) c main_v60
      ∧ r.2.mem ((c.tc : Thread nD τ).loc main_v61) = V11 m (left m) c main_v61)
    ∧ r.2.sem = fun _ => 0) := by
  refine (θ_run defs _ _).mono (fun r h => ?_) (run m ρ)
  obtain ⟨h, hz⟩ := h
  refine ⟨fun c => ⟨⟨?_, ?_, ?_, ?_, ?_, ?_, ?_, ?_⟩, ?_, ?_⟩, hz⟩
  · exact (h c main_arg0 (held_of _ rfl)).trans (V11_main_arg0 m (left m) c)
  · exact (h c main_arg1 (held_of _ rfl)).trans (V11_main_arg1 m (left m) c)
  · exact (h c main_arg2 (held_of _ rfl)).trans (V11_main_arg2 m (left m) c)
  · exact (h c main_arg3 (held_of _ rfl)).trans (V11_main_arg3 m (left m) c)
  · exact (h c main_arg4 (held_of _ rfl)).trans (V11_main_arg4 m (left m) c)
  · exact (h c main_arg5 (held_of _ rfl)).trans (V11_main_arg5 m (left m) c)
  · exact (h c main_arg6 (held_of _ rfl)).trans (V11_main_arg6 m (left m) c)
  · exact (h c main_arg7 (held_of _ rfl)).trans (V11_main_arg7 m (left m) c)
  · exact h c main_v60 (held_of _ rfl)
  · exact h c main_v61 (held_of _ rfl)

/-- The frame, over any reading of a float. -/
theorem frame : θ_run defs (onTc (τ := τ) (main (F := F))) ⟨m, fun _ => 0, ρ⟩
    (fun r => (∀ c : Dev nD, SameArgs m r.2 c) ∧ r.2.sem = fun _ => 0) :=
  (θ_run defs _ _).mono (fun _ h => ⟨fun c => (h.1 c).1, h.2⟩) (outcome m ρ)

end Ideal

theorem ideal : Cert.quiescent_KernelIdeal := fun m g _ => frame m g

set_option maxHeartbeats 4000000 in
theorem compiled : Cert.quiescent_Kernel := fun m g _ => by
  rw [Cert.Same.procedures, Cert.Same.text]
  exact frame (F := Bits) m g

/-! ## The reference, which runs host operations only -/

section Reference

open Cert.ReferenceIdeal Cert.ReferenceIdeal.Gen

/-- The reference declares no semaphore, so every counter is zero. -/
theorem reference_counters (s : MemSt nD τ sig (Elt Ideal)) : s.sem = fun _ => 0 := funext fun g => nomatch g.2

theorem reference_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2, reference_counters r.2⟩) (Value.run m g)

end Reference

theorem reference : Cert.quiescent_ReferenceIdeal := fun m g _ => reference_frame m g

end Cert.Frames

end
-- ==== Proof.Value.Spec.lean ====
/-
The problem's mathematics at one element, over the extended reals.

A graph of 1024 vertices with an edge from each vertex to each: edge `x * 1024 + y` goes from `x` to
`y`.  `message` is the linear layer on an edge and its two ends, `newEdge` and `newNode` the two
results.
-/
module

public import Idealize.ShloMosaic.Lib.Pointwise
public import Mathlib.Data.EReal.Operations

@[expose] public section

noncomputable section

namespace Cert.Value

open Idealize.ShloMosaic

/-- The edge from vertex `x` to vertex `y`. -/
def edge (x y : Fin 1024) : Fin 1048576 := ⟨x.val * 1024 + y.val, by have := x.isLt; have := y.isLt; omega⟩

/-- Row `k` of the second eight, of the third eight, of twenty-four. -/
abbrev lo (k : Fin 8) : Fin 24 := ⟨k.val, by have := k.isLt; omega⟩
abbrev mid (k : Fin 8) : Fin 24 := ⟨8 + k.val, by have := k.isLt; omega⟩
abbrev hi (k : Fin 8) : Fin 24 := ⟨16 + k.val, by have := k.isLt; omega⟩

/-- The six float arguments, as functions of their coordinates. -/
structure Args where
  /-- the vertices' values: batch, vertex, channel -/
  nv : Fin 4 → Fin 1024 → Fin 8 → EReal
  /-- the edges' values: batch, edge, channel -/
  ev : Fin 4 → Fin 1048576 → Fin 8 → EReal
  /-- the weights and the bias of the message layer -/
  W : Fin 24 → Fin 24 → EReal
  b : Fin 24 → EReal
  /-- the weights and the bias of the update layer -/
  U : Fin 24 → Fin 8 → EReal
  u : Fin 8 → EReal

variable (A : Args)

/-- Component `j` of the message of the edge from `x` to `y`. -/
def message (b : Fin 4) (x y : Fin 1024) (j : Fin 24) : EReal :=
  (∑ k, A.nv b x k * A.W (lo k) j) + (∑ k, A.nv b y k * A.W (mid k) j) + (∑ k, A.ev b (edge x y) k * A.W (hi k) j) + A.b j

/-- An edge's new value. -/
def newEdge (b : Fin 4) (x y : Fin 1024) (c : Fin 8) : EReal := A.ev b (edge x y) c + message A b x y (hi c)

/-- The mean of the messages to a vertex over the edges that leave it, and over those that enter it. -/
def meanOut (b : Fin 4) (n : Fin 1024) (k : Fin 8) : EReal := (∑ y, message A b n y (lo k)) / 1024
def meanIn (b : Fin 4) (n : Fin 1024) (k : Fin 8) : EReal := (∑ x, message A b x n (mid k)) / 1024

/-- A vertex's new value. -/
def newNode (b : Fin 4) (n : Fin 1024) (c : Fin 8) : EReal :=
  A.nv b n c + ((∑ k, meanOut A b n k * A.U (lo k) c) + (∑ k, meanIn A b n k * A.U (mid k) c) + (∑ k, A.nv b n k * A.U (hi k) c) + A.u c)

/-- A sum over the edges that leave vertex `n` is a sum over the vertices they enter. -/
theorem sum_leaving {M : Type} [AddCommMonoid M] (g : Fin 1048576 → M) (n : Fin 1024) :
    (∑ e : Fin 1048576, if e.val / 1024 = n.val then g e else 0) = ∑ y : Fin 1024, g (edge n y) := by
  rw [← Equiv.sum_comp (finProdFinEquiv (m := 1024) (n := 1024)) (fun e : Fin 1048576 => if e.val / 1024 = n.val then g e else 0),
    Fintype.sum_prod_type, Finset.sum_eq_single n]
  · refine Finset.sum_congr rfl fun y _ => ?_
    have h : finProdFinEquiv (m := 1024) (n := 1024) (n, y) = edge n y := Fin.ext (by
      show y.val + 1024 * n.val = n.val * 1024 + y.val; omega)
    rw [h, if_pos (by show (n.val * 1024 + y.val) / 1024 = n.val; have := y.isLt; omega)]
  · intro x _ hx
    refine Finset.sum_eq_zero fun y _ => if_neg fun h => hx (Fin.ext ?_)
    have h' : (y.val + 1024 * x.val) / 1024 = n.val := h
    have := y.isLt; omega
  · intro h; exact absurd (Finset.mem_univ _) h

/-- A sum over the edges that enter vertex `n` is a sum over the vertices they leave. -/
theorem sum_entering {M : Type} [AddCommMonoid M] (g : Fin 1048576 → M) (n : Fin 1024) :
    (∑ e : Fin 1048576, if e.val % 1024 = n.val then g e else 0) = ∑ x : Fin 1024, g (edge x n) := by
  rw [← Equiv.sum_comp (finProdFinEquiv (m := 1024) (n := 1024)) (fun e : Fin 1048576 => if e.val % 1024 = n.val then g e else 0),
    Fintype.sum_prod_type]
  refine Finset.sum_congr rfl fun x _ => ?_
  rw [Finset.sum_eq_single n]
  · have h : finProdFinEquiv (m := 1024) (n := 1024) (x, n) = edge x n := Fin.ext (by
      show n.val + 1024 * x.val = x.val * 1024 + n.val; omega)
    rw [h, if_pos (by show (x.val * 1024 + n.val) % 1024 = n.val; have := n.isLt; omega)]
  · intro y _ hy
    refine if_neg fun h => hy (Fin.ext ?_)
    have h' : (y.val + 1024 * x.val) % 1024 = n.val := h
    have := y.isLt; omega
  · intro h; exact absurd (Finset.mem_univ _) h

/-- A sum over twenty-four is the sum of its three eighths. -/
theorem sum_thirds {M : Type} [AddCommMonoid M] (g : Fin 24 → M) : ∑ k, g k = ∑ k, g (lo k) + ∑ k, g (mid k) + ∑ k, g (hi k) := by
  have h := Fin.sum_univ_add (a := 8 + 8) (b := 8) g
  rw [Fin.sum_univ_add (a := 8) (b := 8)] at h
  exact h

end Cert.Value

end
-- ==== Proof.Value.Pre.lean ====
/-
The precondition, read back: the edges are the complete graph's, in row order, and the values of the
vertices, the values of the edges and the weights of the messages are finite.
-/
module

public import proofs.«01_k».proof.Proof.Value.Spec
public import proofs.«01_k».proof.Pre_complete_graph
public import proofs.«01_k».proof.Proof.Gen.Pre_complete_graph
public import Idealize.ShloMosaic.Lib.ReduceAll
public import Idealize.ShloMosaic.Lib.Pointwise
public import Idealize.ShloMosaic.Lib.StableHlo.Predicate
public import Idealize.ShloMosaic.PureOps.Ideal.Laws

@[expose] public section

set_option maxRecDepth 16384

noncomputable section

namespace Cert.Value

open Idealize.ShloMosaic Cert.Pre_complete_graph Cert.Pre_complete_graph.Gen

/-- An extended real below +∞ in absolute value is a real. -/
theorem finite_of_lt (x : Ideal .f32) (h : BitVec.ofBool (decide (FloatOps.absf x < Ideal.ofBits FTy.f32 2139095040#32)) = 1#1) :
    ∃ r : ℝ, x = (r : EReal) := by
  have hb : Ideal.ofBits FTy.f32 2139095040#32 = (⊤ : EReal) := by simp [Ideal.ofBits, Ideal.ieee]
  rw [hb] at h
  have h' : FloatOps.absf x < (⊤ : EReal) := by
    by_contra hc
    rw [decide_eq_false hc] at h
    exact absurd h (by decide)
  induction x using EReal.rec with
  | bot => exact absurd h' (by simp [Ideal.absf_def])
  | coe r => exact ⟨r, rfl⟩
  | top => exact absurd h' (by simp [Ideal.absf_def])

theorem one_and {a b : BitVec 1} (h : IntOp.andi a b = 1#1) : a = 1#1 ∧ b = 1#1 := IntOp.andi_eq_one.1 h

/-- What the precondition says. -/
theorem pre_facts (x0 : FVec Ideal S4x1024x8 .f32) (x1 : FVec Ideal S4x1048576x8 .f32) (x2 x3 : IVec S1048576 32) (x4 : FVec Ideal S24x24 .f32)
    (x5 : FVec Ideal S24 .f32) (x6 : FVec Ideal S24x8 .f32) (x7 : FVec Ideal S8 .f32)
    (h : fn (F := Ideal) x0 x1 x2 x3 x4 x5 x6 x7 = fun _ => 1#1) :
    (∀ e : Fin 1048576, x2 (ix1 e) = BitVec.ofNat 32 (e.val / 1024)) ∧ (∀ e : Fin 1048576, x3 (ix1 e) = BitVec.ofNat 32 (e.val % 1024))
      ∧ (∀ i, ∃ r : ℝ, x0 i = (r : EReal)) ∧ (∀ i, ∃ r : ℝ, x1 i = (r : EReal)) ∧ (∀ i, ∃ r : ℝ, x4 i = (r : EReal)) := by
  have e := congrFun h (fun a => a.elim0)
  unfold fn fn_part1 at e
  obtain ⟨e1, e2⟩ := one_and e
  obtain ⟨ea, eb⟩ := one_and e1
  obtain ⟨e0, e3⟩ := one_and e2
  obtain ⟨ee, ew⟩ := one_and e3
  haveI : Subsingleton S_.Idx := ⟨fun a b => funext fun i => i.elim0⟩
  refine ⟨fun e => ?_, fun e => ?_, fun i => ?_, fun i => ?_, fun i => ?_⟩
  · have := Host.reduce_andi_all _ _ _ _ _ ea (ix2 (⟨e.val / 1024, by have := e.isLt; omega⟩ : Fin 1024) (⟨e.val % 1024, by omega⟩ : Fin 1024))
    pointwise at this
    exact StableHlo.Predicate.cmpi_eq_iff.1 this
  · have := Host.reduce_andi_all _ _ _ _ _ eb (ix2 (⟨e.val / 1024, by have := e.isLt; omega⟩ : Fin 1024) (⟨e.val % 1024, by omega⟩ : Fin 1024))
    pointwise at this
    exact StableHlo.Predicate.cmpi_eq_iff.1 this
  · have := Host.reduce_andi_all _ _ _ _ _ e0 i
    pointwise at this
    exact finite_of_lt _ this
  · have := Host.reduce_andi_all _ _ _ _ _ ee i
    pointwise at this
    exact finite_of_lt _ this
  · have := Host.reduce_andi_all _ _ _ _ _ ew i
    pointwise at this
    exact finite_of_lt _ this

end Cert.Value

end
-- ==== Proof.Value.EdgeAt.lean ====
/-
What the edge kernel computes from its blocks, at one element.
-/
module

public import proofs.«01_k».proof.Proof.Edge.Step
public import Idealize.ShloMosaic.Lib.Pointwise
public import Idealize.ShloMosaic.PureOps.Ideal.Laws

@[expose] public section

set_option maxRecDepth 16384

noncomputable section

namespace Cert.KernelIdeal.Edge

open Idealize.ShloMosaic Cert.KernelIdeal Cert.KernelIdeal.Gen

theorem part_at (x2 : Vec Ideal S1x64x128 .f32) (x5 : Vec Ideal S128x128 .f32) (x8 : Vec Ideal S1x128 .f32) (r : Fin 64) (l : Fin 128) :
    part (F := Ideal) x2 x5 x8 (ix2 r l) = (∑ k : Fin 128, x2 (ix3 (0 : Fin 1) r k) * x5 (ix2 k l) : EReal) + x8 (ix2 (0 : Fin 1) l) := by
  unfold part
  pointwise [k0_pay5]

theorem msg_at (x0 : Vec Ideal S1x4096x128 .f32) (x1 : Vec Ideal S1x64x8 .f32) (x3 : Vec Ideal S4096x128 .bf16) (x4 : Vec Ideal S128x128 .f32)
    (x6 : Vec Ideal S8x128 .f32) (p : Vec Ideal S64x128 .f32) (r : Fin 4096) (l : Fin 128) :
    msg (F := Ideal) x0 x1 x3 x4 x6 p (ix3 (0 : Fin 1) r l)
      = (∑ k : Fin 128, x0 (ix3 (0 : Fin 1) r k) * x4 (ix2 k l) : EReal) + ∑ j : Fin 128, (x3 (ix2 r j) : EReal) * (if h : j.val < 64 then ∑ k : Fin 8, x1 (ix3 (0 : Fin 1) (⟨j.val, h⟩ : Fin 64) k) * x6 (ix2 k l) else p (ix2 (⟨j.val - 64, by have := j.isLt; omega⟩ : Fin 64) l)) := by
  unfold msg
  pointwise [k0_pay7, k0_pay6]

theorem rowSum_at (x0 : Vec Ideal S1x4096x128 .f32) (x7 : Vec Ideal S128x8 .f32) (r : Fin 64) (c : Fin 8) :
    rowSum (F := Ideal) x0 x7 (ix3 (0 : Fin 1) r c)
      = (∑ y : Fin 64, ∑ l : Fin 128, x0 (ix3 (0 : Fin 1) (⟨r.val * 64 + y.val, by have := r.isLt; have := y.isLt; omega⟩ : Fin 4096) l) * x7 (ix2 l c) : EReal) := by
  unfold rowSum
  pointwise [k0_pay1, k0_pay8, k0_pay6]

theorem colSum_at (x0 : Vec Ideal S1x4096x128 .f32) (y : Fin 64) (l : Fin 128) :
    colSum (F := Ideal) x0 (ix3 (0 : Fin 1) y l)
      = (∑ r : Fin 64, x0 (ix3 (0 : Fin 1) (⟨r.val * 64 + y.val, by have := r.isLt; have := y.isLt; omega⟩ : Fin 4096) l) : EReal) := by
  unfold colSum
  pointwise [k0_pay3, k0_pay2, k0_pay6]

theorem colAdd_at (x0 : Vec Ideal S1x4096x128 .f32) (acc : Vec Ideal S1x64x128 .f32) (y : Fin 64) (l : Fin 128) :
    colAdd (F := Ideal) x0 acc (ix3 (0 : Fin 1) y l)
      = (acc (ix3 (0 : Fin 1) y l) : EReal) + ∑ r : Fin 64, x0 (ix3 (0 : Fin 1) (⟨r.val * 64 + y.val, by have := r.isLt; have := y.isLt; omega⟩ : Fin 4096) l) := by
  unfold colAdd
  pointwise [k0_pay4, k0_pay2, k0_pay6]

end Cert.KernelIdeal.Edge

end
-- ==== Proof.Value.EdgeBlocks.lean ====
/-
The blocks the edge kernel's points work on, at one element: point `t` is of batch `t / 16` and of
the first-end vertices `64 * (t % 16) …`.
-/
module

public import proofs.«01_k».proof.Proof.Edge.Region
public import proofs.«01_k».proof.Proof.Value.EdgeAt
public import Idealize.ShloMosaic.Lib.Pipeline.ValueKit

@[expose] public section

set_option maxRecDepth 16384

noncomputable section

namespace Cert.KernelIdeal.Edge

open Cert.KernelIdeal Cert.KernelIdeal.Gen
open Idealize.ShloMosaic Idealize.ShloMosaic.TcCoe

/-- A point's batch, and which sixteenth of the first-end vertices it works on. -/
def batch (t : Fin cfg0.N) : Fin 4 := ⟨t.val / 16, by have : t.val < 64 := t.isLt; omega⟩
def part16 (t : Fin cfg0.N) : Fin 16 := ⟨t.val % 16, by omega⟩

theorem idx0 : ∀ t : Fin cfg0.N, win0_0.index t = ![t.val / 16, t.val % 16, 0] := (by decide +kernel : ∀ t : Fin grid0.N, _)
theorem idx1 : ∀ t : Fin cfg0.N, win0_1.index t = ![t.val / 16, t.val % 16, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 16, t.val % 16, 0] := (by decide +kernel : ∀ t : Fin grid0.N, _)
theorem idx10 : ∀ t : Fin cfg0.N, win0_10.index t = ![t.val / 16, t.val % 16, 0] := (by decide +kernel : ∀ t : Fin grid0.N, _)
theorem idx11 : ∀ t : Fin cfg0.N, win0_11.index t = ![t.val / 16, 0, 0] := (by decide +kernel : ∀ t : Fin grid0.N, _)

variable (W : Dev nD → Valuation τ sig (Elt Ideal)) (c : Dev nD) (t : Fin cfg0.N)

/-- Row `r` of the edge block of sixteenth `q`. -/
def flatRow (q : Fin 16) (r : Fin 4096) : Fin 65536 := ⟨q.val * 4096 + r.val, by have := q.isLt; have := r.isLt; omega⟩
def nodeRow (q : Fin 16) (r : Fin 64) : Fin 1024 := ⟨q.val * 64 + r.val, by have := q.isLt; have := r.isLt; omega⟩

theorem blk0_at (r : Fin 4096) (k : Fin 128) :
    blk W c 0 t (ix3 (0 : Fin 1) r k) = W c (Proc.devRef .tc main_v0) (ix3 (batch t) (flatRow (part16 t) r) k) := by
  blk_ext [blk, idx0, batch, flatRow, part16]

theorem blk1_at (r : Fin 64) (k : Fin 8) :
    blk W c 1 t (ix3 (0 : Fin 1) r k) = W c (Proc.devRef .tc main_arg0) (ix3 (batch t) (nodeRow (part16 t) r) k) := by
  blk_ext [blk, idx1, batch, nodeRow, part16]

theorem blk2_at (r : Fin 64) (k : Fin 128) :
    blk W c 2 t (ix3 (0 : Fin 1) r k) = W c (Proc.devRef .tc main_v1) (ix3 (batch t) r k) := by
  blk_ext [blk, idx2, batch]

theorem blk3_at (r : Fin 4096) (k : Fin 128) : blk W c 3 t (ix2 r k) = W c (Proc.devRef .tc main_v55) (ix2 r k) := by
  blk_ext [blk, idx3]
theorem blk4_at (r : Fin 128) (k : Fin 128) : blk W c 4 t (ix2 r k) = W c (Proc.devRef .tc main_v18) (ix2 r k) := by
  blk_ext [blk, idx4]
theorem blk5_at (r : Fin 128) (k : Fin 128) : blk W c 5 t (ix2 r k) = W c (Proc.devRef .tc main_v19) (ix2 r k) := by
  blk_ext [blk, idx5]
theorem blk6_at (r : Fin 8) (k : Fin 128) : blk W c 6 t (ix2 r k) = W c (Proc.devRef .tc main_v22) (ix2 r k) := by
  blk_ext [blk, idx6]
theorem blk7_at (r : Fin 128) (k : Fin 8) : blk W c 7 t (ix2 r k) = W c (Proc.devRef .tc main_v31) (ix2 r k) := by
  blk_ext [blk, idx7]
theorem blk8_at (k : Fin 128) : blk W c 8 t (ix2 (0 : Fin 1) k) = W c (Proc.devRef .tc main_v36) (ix2 (0 : Fin 1) k) := by
  blk_ext [blk, idx8]

end Cert.KernelIdeal.Edge

end
-- ==== Proof.Value.EdgeArrays.lean ====
/-
The three arrays the edge kernel leaves, at one element.
-/
module

public import proofs.«01_k».proof.Proof.Value.EdgeBlocks

@[expose] public section

set_option maxRecDepth 16384

noncomputable section

namespace Cert.KernelIdeal.Edge

open Cert.KernelIdeal Cert.KernelIdeal.Gen
open Idealize.ShloMosaic Idealize.ShloMosaic.TcCoe

variable (W : Dev nD → Valuation τ sig (Elt Ideal)) (c : Dev nD)

/-- The point of a batch and a sixteenth. -/
def point (b : Fin 4) (q : Fin 16) : Fin cfg0.N := ⟨b.val * 16 + q.val, by show _ < 64; have := b.isLt; have := q.isLt; omega⟩

theorem batch_point (b : Fin 4) (q : Fin 16) : batch (point b q) = b := Fin.ext (by
  show (b.val * 16 + q.val) / 16 = b.val; have := q.isLt; omega)
theorem part16_point (b : Fin 4) (q : Fin 16) : part16 (point b q) = q := Fin.ext (by
  show (b.val * 16 + q.val) % 16 = q.val; have := q.isLt; omega)
theorem point_of (t : Fin cfg0.N) : point (batch t) (part16 t) = t := Fin.ext (by
  show t.val / 16 * 16 + t.val % 16 = t.val; omega)

/-- Where a point's blocks lie in the three arrays. -/
theorem emb9 (t : Fin cfg0.N) (z : Fin 1) (r : Fin 4096) (l : Fin 128) :
    (win0_9.blk t).view.emb (ix3 z r l) = ix3 (batch t) (flatRow (part16 t) r) l := by
  blk_ext [idx9, batch, flatRow, part16]
theorem emb10 (t : Fin cfg0.N) (z : Fin 1) (r : Fin 64) (l : Fin 8) :
    (win0_10.blk t).view.emb (ix3 z r l) = ix3 (batch t) (nodeRow (part16 t) r) l := by
  blk_ext [idx10, batch, nodeRow, part16]
theorem emb11 (t : Fin cfg0.N) (z : Fin 1) (r : Fin 64) (l : Fin 128) :
    (win0_11.blk t).view.emb (ix3 z r l) = ix3 (batch t) r l := by
  blk_ext [idx11, batch]

/-- The array of the edges' new values. -/
def msgs (i : S4x65536x128.Idx) : Ideal .f32 :=
  outMsg W c (point (i 0) ⟨(i 1).val / 4096, by have : (i 1).val < 65536 := (i 1).isLt; omega⟩)
    (ix3 (0 : Fin 1) (⟨(i 1).val % 4096, by omega⟩ : Fin 4096) (i 2))

theorem msgs_at (b : Fin 4) (q : Fin 16) (r : Fin 4096) (l : Fin 128) :
    msgs W c (ix3 b (flatRow q r) l) = outMsg W c (point b q) (ix3 (0 : Fin 1) r l) := by
  have h1 : (⟨(flatRow q r).val / 4096, by have := (flatRow q r).isLt; omega⟩ : Fin 16) = q := Fin.ext (by
    show (q.val * 4096 + r.val) / 4096 = q.val; have := r.isLt; omega)
  have h2 : (⟨(flatRow q r).val % 4096, by omega⟩ : Fin 4096) = r := Fin.ext (by
    show (q.val * 4096 + r.val) % 4096 = r.val; have := r.isLt; omega)
  show outMsg W c (point b ⟨(flatRow q r).val / 4096, _⟩) (ix3 (0 : Fin 1) (⟨(flatRow q r).val % 4096, _⟩ : Fin 4096) l) = _
  rw [h1, h2]

theorem arr9 : (data W c).arrAt 9 cfg0.N = msgs W c := by
  refine (data W c).arrAt_eq_of_covers 9 _ (by decide +kernel) fun t hf y => ?_
  blk_simp
  rw [after_9]
  obtain ⟨z, r, l, rfl⟩ : ∃ (z : Fin 1) (r : Fin 4096) (l : Fin 128), y = ix3 z r l := ⟨y 0, y 1, y 2, eq_ix3 y⟩
  rw [emb9, msgs_at, point_of, Fin.fin_one_eq_zero z]

/-- The array of the sums over the edges that leave a vertex. -/
def leaving (i : S4x1024x8.Idx) : Ideal .f32 :=
  outRow W c (point (i 0) ⟨(i 1).val / 64, by have : (i 1).val < 1024 := (i 1).isLt; omega⟩)
    (ix3 (0 : Fin 1) (⟨(i 1).val % 64, by omega⟩ : Fin 64) (i 2))

theorem leaving_at (b : Fin 4) (q : Fin 16) (r : Fin 64) (l : Fin 8) :
    leaving W c (ix3 b (nodeRow q r) l) = outRow W c (point b q) (ix3 (0 : Fin 1) r l) := by
  have h1 : (⟨(nodeRow q r).val / 64, by have := (nodeRow q r).isLt; omega⟩ : Fin 16) = q := Fin.ext (by
    show (q.val * 64 + r.val) / 64 = q.val; have := r.isLt; omega)
  have h2 : (⟨(nodeRow q r).val % 64, by omega⟩ : Fin 64) = r := Fin.ext (by
    show (q.val * 64 + r.val) % 64 = r.val; have := r.isLt; omega)
  show outRow W c (point b ⟨(nodeRow q r).val / 64, _⟩) (ix3 (0 : Fin 1) (⟨(nodeRow q r).val % 64, _⟩ : Fin 64) l) = _
  rw [h1, h2]

theorem arr10 : (data W c).arrAt 10 cfg0.N = leaving W c := by
  refine (data W c).arrAt_eq_of_covers 10 _ (by decide +kernel) fun t hf y => ?_
  blk_simp
  rw [after_10]
  obtain ⟨z, r, l, rfl⟩ : ∃ (z : Fin 1) (r : Fin 64) (l : Fin 8), y = ix3 z r l := ⟨y 0, y 1, y 2, eq_ix3 y⟩
  rw [emb10, leaving_at, point_of, Fin.fin_one_eq_zero z]

/-- The array of the sums over the edges that enter a vertex: what the batch's last point holds. -/
def entering (i : S4x64x128.Idx) : Ideal .f32 := outCol W c (point (i 0) 15) (ix3 (0 : Fin 1) (i 1) (i 2))

theorem arr11 : (data W c).arrAt 11 cfg0.N = entering W c := by
  refine (data W c).arrAt_eq_of_covers 11 _ (by decide +kernel) fun t hf y => ?_
  blk_simp
  rw [after_11]
  obtain ⟨z, r, l, rfl⟩ : ∃ (z : Fin 1) (r : Fin 64) (l : Fin 128), y = ix3 z r l := ⟨y 0, y 1, y 2, eq_ix3 y⟩
  have hl : part16 t = 15 := Fin.ext ((flush0_11 t).mp hf)
  rw [emb11, Fin.fin_one_eq_zero z]
  show _ = outCol W c (point (batch t) 15) (ix3 (0 : Fin 1) r l)
  rw [← hl, point_of]

/-- The edges' values as the kernel is handed them, sixteen edges to a row. -/
def flat (b : Fin 4) (r : Fin 65536) (l : Fin 128) : EReal := W c (Proc.devRef .tc main_v0) (ix3 b r l)

theorem blk0_flat (t : Fin cfg0.N) (r : Fin 4096) (k : Fin 128) :
    blk W c 0 t (ix3 (0 : Fin 1) r k) = flat W c (batch t) (flatRow (part16 t) r) k := blk0_at W c t r k

/-- What a point holds of the sums: the sums of the points of its batch so far. -/
theorem outCol_at (b : Fin 4) (y : Fin 64) (l : Fin 128) : ∀ (n : ℕ) (hn : n < 16),
    outCol W c (point b ⟨n, hn⟩) (ix3 (0 : Fin 1) y l)
      = ∑ q ∈ Finset.range (n + 1), if h : q < 16 then
          ∑ x : Fin 64, flat W c b (flatRow ⟨q, h⟩ ⟨x.val * 64 + y.val, by have := x.isLt; have := y.isLt; omega⟩) l else (0 : EReal)
  | 0, hn => by
    rw [outCol_first W c (point b ⟨0, hn⟩) (by show (b.val * 16 + 0) % 16 = 0; omega), colSum_at]
    simp only [blk0_flat, batch_point, part16_point, Finset.sum_range_one, zero_add, dif_pos hn]
  | n + 1, hn => by
    have hp : prev (point b ⟨n + 1, hn⟩) = point b ⟨n, by omega⟩ := Fin.ext (by
      show b.val * 16 + (n + 1) - 1 = b.val * 16 + n; omega)
    rw [outCol_next W c (point b ⟨n + 1, hn⟩) (by show ¬ (b.val * 16 + (n + 1)) % 16 = 0; omega), colAdd_at, hp, outCol_at b y l n (by omega),
      Finset.sum_range_succ _ (n + 1), dif_pos hn]
    simp only [blk0_flat, batch_point, part16_point]

/-- The sums over the edges that enter a vertex. -/
theorem entering_at (b : Fin 4) (y : Fin 64) (l : Fin 128) :
    entering W c (ix3 b y l)
      = ∑ q : Fin 16, ∑ x : Fin 64,
          flat W c b (flatRow q ⟨x.val * 64 + y.val, by have := x.isLt; have := y.isLt; omega⟩) l := by
  show outCol W c (point b ⟨15, by omega⟩) (ix3 (0 : Fin 1) y l) = _
  rw [outCol_at, Finset.sum_range]
  exact Finset.sum_congr rfl fun q _ => dif_pos q.isLt

end Cert.KernelIdeal.Edge

end
-- ==== Proof.Value.NodeAt.lean ====
/-
What the vertex kernel computes from its blocks, at one element.
-/
module

public import proofs.«01_k».proof.Proof.Node.Step
public import proofs.«01_k».proof.Proof.Value.Spec
public import Idealize.ShloMosaic.Lib.Pointwise
public import Idealize.ShloMosaic.PureOps.Ideal.Laws

@[expose] public section

set_option maxRecDepth 16384

noncomputable section

namespace Cert.KernelIdeal.Node

open Idealize.ShloMosaic Cert.KernelIdeal Cert.KernelIdeal.Gen Cert.Value

theorem rows_at (x0 x1 x2 : Vec Ideal S1x1024x8 .f32) (x3 : Vec Ideal S24x24 .f32) (x4 : Vec Ideal S24x8 .f32) (x5 : Vec Ideal S1x24 .f32)
    (x6 : Vec Ideal S1x8 .f32) (n : Fin 1024) (c : Fin 8) :
    rows (F := Ideal) x0 x1 x2 x3 x4 x5 x6 (ix3 (0 : Fin 1) n c)
      = (x0 (ix3 (0 : Fin 1) n c) : EReal)
        + ((∑ k : Fin 8, ((∑ i : Fin 8, x0 (ix3 (0 : Fin 1) n i) * x3 (ix2 (lo i) (lo k)))
                + (∑ i : Fin 8, Ideal.div (∑ x : Fin 1024, x0 (ix3 (0 : Fin 1) x i)) (Ideal.ofBits .f32 0x44800000#32) * x3 (ix2 (mid i) (lo k)))
                + (∑ i : Fin 8, x1 (ix3 (0 : Fin 1) n i) * Ideal.ofBits .f32 0x3A800000#32 * x3 (ix2 (hi i) (lo k)))
                + x5 (ix2 (0 : Fin 1) (lo k))) * x4 (ix2 (lo k) c))
          + (∑ k : Fin 8, ((∑ i : Fin 8, Ideal.div (∑ x : Fin 1024, x0 (ix3 (0 : Fin 1) x i)) (Ideal.ofBits .f32 0x44800000#32) * x3 (ix2 (lo i) (mid k)))
                + (∑ i : Fin 8, x0 (ix3 (0 : Fin 1) n i) * x3 (ix2 (mid i) (mid k)))
                + (∑ i : Fin 8, x2 (ix3 (0 : Fin 1) n i) * Ideal.ofBits .f32 0x3A800000#32 * x3 (ix2 (hi i) (mid k)))
                + x5 (ix2 (0 : Fin 1) (mid k))) * x4 (ix2 (mid k) c))
          + (∑ k : Fin 8, x0 (ix3 (0 : Fin 1) n k) * x4 (ix2 (hi k) c)) + x6 (ix2 (0 : Fin 1) c)) := by
  unfold rows
  pointwise [k1_pay1, k1_pay2, k1_pay3, k1_pay4, k1_pay5, k1_pay6, bias]

end Cert.KernelIdeal.Node

end
-- ==== Proof.Value.NodeArrays.lean ====
/-
The blocks the node kernel's points work on, and the array they leave, at one element: point `t` is
of batch `t`.
-/
module

public import proofs.«01_k».proof.Proof.Node.Region
public import proofs.«01_k».proof.Proof.Value.NodeAt
public import Idealize.ShloMosaic.Lib.Pipeline.ValueKit

@[expose] public section

set_option maxRecDepth 16384

noncomputable section

namespace Cert.KernelIdeal.Node

open Cert.KernelIdeal Cert.KernelIdeal.Gen
open Idealize.ShloMosaic Idealize.ShloMosaic.TcCoe

/-- A point's batch, and a batch's point. -/
def batch (t : Fin cfg1.N) : Fin 4 := ⟨t.val, t.isLt⟩
def point (b : Fin 4) : Fin cfg1.N := ⟨b.val, b.isLt⟩

theorem idx0 : ∀ t : Fin cfg1.N, win1_0.index t = ![t.val, 0, 0] := (by decide +kernel : ∀ t : Fin grid1.N, _)
theorem idx1 : ∀ t : Fin cfg1.N, win1_1.index t = ![t.val, 0, 0] := (by decide +kernel : ∀ t : Fin grid1.N, _)
theorem idx2 : ∀ t : Fin cfg1.N, win1_2.index t = ![t.val, 0, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, win1_5.index t = ![0, 0] := (by decide +kernel : ∀ t : Fin grid1.N, _)
theorem idx6 : ∀ t : Fin cfg1.N, win1_6.index t = ![0, 0] := (by decide +kernel : ∀ t : Fin grid1.N, _)
theorem idx7 : ∀ t : Fin cfg1.N, win1_7.index t = ![t.val, 0, 0] := (by decide +kernel : ∀ t : Fin grid1.N, _)

variable (W : Dev nD → Valuation τ sig (Elt Ideal)) (c : Dev nD) (t : Fin cfg1.N)

theorem blk0_at (r : Fin 1024) (k : Fin 8) : blk W c 0 t (ix3 (0 : Fin 1) r k) = W c (Proc.devRef .tc main_arg0) (ix3 (batch t) r k) := by
  blk_ext [blk, idx0, batch]
theorem blk1_at (r : Fin 1024) (k : Fin 8) : blk W c 1 t (ix3 (0 : Fin 1) r k) = W c (Proc.devRef .tc main_v56_1) (ix3 (batch t) r k) := by
  blk_ext [blk, idx1, batch]
theorem blk2_at (r : Fin 1024) (k : Fin 8) : blk W c 2 t (ix3 (0 : Fin 1) r k) = W c (Proc.devRef .tc main_v57) (ix3 (batch t) r k) := by
  blk_ext [blk, idx2, batch]
theorem blk3_at (r : Fin 24) (k : Fin 24) : blk W c 3 t (ix2 r k) = W c (Proc.devRef .tc main_arg4) (ix2 r k) := by
  blk_ext [blk, idx3]
theorem blk4_at (r : Fin 24) (k : Fin 8) : blk W c 4 t (ix2 r k) = W c (Proc.devRef .tc main_arg6) (ix2 r k) := by
  blk_ext [blk, idx4]
theorem blk5_at (k : Fin 24) : blk W c 5 t (ix2 (0 : Fin 1) k) = W c (Proc.devRef .tc main_v58) (ix2 (0 : Fin 1) k) := by
  blk_ext [blk, idx5]
theorem blk6_at (k : Fin 8) : blk W c 6 t (ix2 (0 : Fin 1) k) = W c (Proc.devRef .tc main_v59) (ix2 (0 : Fin 1) k) := by
  blk_ext [blk, idx6]

theorem emb7 (z : Fin 1) (r : Fin 1024) (l : Fin 8) : (win1_7.blk t).view.emb (ix3 z r l) = ix3 (batch t) r l := by
  blk_ext [idx7, batch]

/-- The array of the vertices' new values. -/
def nodes (i : S4x1024x8.Idx) : Ideal .f32 := result W c (point (i 0)) (ix3 (0 : Fin 1) (i 1) (i 2))

theorem arr7 : (data W c).arrAt 7 cfg1.N = nodes W c := by
  refine (data W c).arrAt_eq_of_covers 7 _ (by decide +kernel) fun t hf y => ?_
  blk_simp
  rw [after_7]
  obtain ⟨z, r, l, rfl⟩ : ∃ (z : Fin 1) (r : Fin 1024) (l : Fin 8), y = ix3 z r l := ⟨y 0, y 1, y 2, eq_ix3 y⟩
  rw [emb7, Fin.fin_one_eq_zero z]
  rfl

end Cert.KernelIdeal.Node

end
-- ==== Proof.Value.Prefix.lean ====
/-
What the edge kernel is handed, at one element: the host operations that lay out the edges' and
vertices' values and build the block matrices.
-/
module

public import proofs.«01_k».proof.Proof.Gen.KernelIdeal.Regions
public import proofs.«01_k».proof.Proof.Value.Spec
public import Idealize.ShloMosaic.Lib.StableHlo.ReadAt
public import Idealize.ShloMosaic.Lib.StableHlo.Predicate
public import Idealize.ShloMosaic.Lib.Pipeline.ValueKit

@[expose] public section

set_option maxRecDepth 16384

noncomputable section

namespace Cert.KernelIdeal.Prefix

open Cert.KernelIdeal Cert.KernelIdeal.Gen
open Idealize.ShloMosaic Idealize.ShloMosaic.TcCoe

variable (m : (ℓ : Loc nD τ sig) → Buf (Elt Ideal) ℓ) (c : Dev nD)

/-- A comparison of two words that hold small numbers, as a number. -/
theorem hit (a b : ℕ) (ha : a < 2 ^ 31) (hb : b < 2 ^ 31) :
    (FloatOps.uitofp (F := Ideal) FTy.f32 (IntOp.cmpi CmpIPredicate.eq (IntOp.addi (BitVec.ofNat 32 a) 0#32) (BitVec.ofNat 32 b)) : EReal)
      = if a = b then 1 else 0 := by
  have h0 : IntOp.addi (BitVec.ofNat 32 a) 0#32 = BitVec.ofNat 32 a := by unfold IntOp.addi; simp
  rw [h0]
  by_cases h : a = b
  · subst h
    rw [if_pos rfl, StableHlo.Predicate.cmpi_eq_iff.mpr rfl]
    show (((1#1 : BitVec 1).toNat : ℝ) : EReal) = 1
    norm_num
  · rw [if_neg h]
    have hn : ¬ BitVec.ofNat 32 a = BitVec.ofNat 32 b := fun e => h (by
      have := congrArg BitVec.toNat e
      simp only [BitVec.toNat_ofNat] at this
      omega)
    have h1 : IntOp.cmpi CmpIPredicate.eq (BitVec.ofNat 32 a) (BitVec.ofNat 32 b) = 0#1 := by
      rcases BitVec.eq_zero_or_eq_one (IntOp.cmpi CmpIPredicate.eq (BitVec.ofNat 32 a) (BitVec.ofNat 32 b)) with e | e
      · exact e
      · exact absurd (StableHlo.Predicate.cmpi_eq_iff.mp e) hn
    rw [h1]
    show (((0#1 : BitVec 1).toNat : ℝ) : EReal) = 0
    norm_num

/-- The edges' values, sixteen edges to a row. -/
theorem v0_at (b : Fin 4) (r : Fin 65536) (l : Fin 128) :
    V7 m c main_v0 (ix3 b r l) = m ((c : Thread nD τ).loc main_arg1) (ix3 b ⟨r.val * 16 + l.val / 8, by have := r.isLt; have := l.isLt; omega⟩ ⟨l.val % 8, by omega⟩) := by
  rw [V7_of m c main_v0 (by decide), V6_of m c main_v0 (by decide), V5_of m c main_v0 (by decide), V4_of m c main_v0 (by decide),
    V3_of m c main_v0 (by decide), V2_of m c main_v0 (by decide)]
  unfold V1 hostOps0
  after_reads_at

/-- The vertices' values, sixteen vertices to a row. -/
theorem v1_at (b : Fin 4) (r : Fin 64) (l : Fin 128) :
    V7 m c main_v1 (ix3 b r l) = m ((c : Thread nD τ).loc main_arg0) (ix3 b ⟨r.val * 16 + l.val / 8, by have := r.isLt; have := l.isLt; omega⟩ ⟨l.val % 8, by omega⟩) := by
  rw [V7_of m c main_v1 (by decide), V6_of m c main_v1 (by decide), V5_of m c main_v1 (by decide), V4_of m c main_v1 (by decide),
    V3_of m c main_v1 (by decide), V2_of m c main_v1 (by decide)]
  unfold V1 hostOps0
  after_reads_at

theorem arg0_at (i : S4x1024x8.Idx) : V7 m c main_arg0 i = m ((c : Thread nD τ).loc main_arg0) i := by
  rw [V7_of m c main_arg0 (by decide), V6_of m c main_arg0 (by decide), V5_of m c main_arg0 (by decide), V4_of m c main_arg0 (by decide),
    V3_of m c main_arg0 (by decide), V2_of m c main_arg0 (by decide), V1_of m c main_arg0 (by decide)]

/-- The weights as the program is handed them, and the message layer's bias. -/
def weight (i j : Fin 24) : EReal := m ((c : Thread nD τ).loc main_arg4) (ix2 i j)
def bias (j : Fin 24) : EReal := m ((c : Thread nD τ).loc main_arg5) (ix1 j)

/-- A lane's channel. -/
def lane (l : Fin 128) : Fin 8 := ⟨l.val % 8, by omega⟩

/-- The edges' own weights, once per edge of a row, with the edge's own value added. -/
theorem v18_at (k l : Fin 128) : (V7 m c main_v18 (ix2 k l) : Ideal .f32)
    = ((if k.val / 8 = l.val / 8 then 1 else 0) * weight m c (Value.hi (lane k)) (Value.hi (lane l)) + if k.val = l.val then 1 else 0 : EReal) := by
  unfold V7 hostOps0_6
  after_reads_at
  exact congrArg₂ (fun x y : EReal => x * weight m c (Value.hi (lane k)) (Value.hi (lane l)) + y)
    (hit (k.val / 8) (l.val / 8) (by omega) (by omega)) (hit k.val l.val (by omega) (by omega))
/-- The second ends' weights, once per edge of a row. -/
theorem v19_at (k l : Fin 128) : (V7 m c main_v19 (ix2 k l) : Ideal .f32)
    = ((if k.val / 8 = l.val / 8 then 1 else 0) * weight m c (Value.mid (lane k)) (Value.hi (lane l)) : EReal) := by
  unfold V7 hostOps0_6
  after_reads_at
  rw [hit _ _ (by omega) (by omega)]
  rfl
/-- The first ends' weights, once per edge of a row. -/
theorem v22_at (k : Fin 8) (l : Fin 128) : (V7 m c main_v22 (ix2 k l) : Ideal .f32) = weight m c (Value.lo k) (Value.hi (lane l)) := by
  unfold V7 hostOps0_6
  after_reads_at
  rfl
/-- The matrix that sums a row's edges, channel by channel. -/
theorem v31_at (k : Fin 128) (l : Fin 8) : (V7 m c main_v31 (ix2 k l) : Ideal .f32) = (if k.val % 8 = l.val then 1 else 0 : EReal) := by
  unfold V7 hostOps0_6
  after_reads_at
  rw [hit _ _ (by omega) (by omega)]
/-- The bias, once per edge of a row. -/
theorem v36_at (l : Fin 128) : (V7 m c main_v36 (ix2 (0 : Fin 1) l) : Ideal .f32) = bias m c (Value.hi (lane l)) := by
  unfold V7 hostOps0_6
  after_reads_at
  rfl
/-- The two halves of the matrix that picks a row's two ends. -/
theorem v44_at (k : Fin 4096) (l : Fin 64) : (StableHlo.upto hostOps0_6 (V6 m c) 10 (Proc.devRef .tc main_v44) (ix2 k l) : Ideal .f32)
    = (if k.val / 64 = l.val then 1 else 0 : EReal) := by
  unfold StableHlo.upto
  simp only [List.take]
  after_reads_at
  rw [hit _ _ (by omega) (by omega)]
theorem v53_at (k : Fin 4096) (l : Fin 64) : (StableHlo.upto hostOps0_6 (V6 m c) 10 (Proc.devRef .tc main_v53) (ix2 k l) : Ideal .f32)
    = (if k.val % 64 = l.val then 1 else 0 : EReal) := by
  unfold StableHlo.upto
  simp only [List.take]
  after_reads_at
  rw [hit _ _ (by omega) (by omega)]
theorem v55_at (k : Fin 4096) (l : Fin 128) : (V7 m c main_v55 (ix2 k l) : Ideal .bf16)
    = (if l.val < 64 then (if k.val / 64 = l.val then 1 else 0) else if k.val % 64 = l.val - 64 then 1 else 0 : EReal) := by
  unfold V7 hostOps0_6
  after_reads_at
  split
  · exact v44_at m c k _
  · exact v53_at m c k _

end Cert.KernelIdeal.Prefix

end
-- ==== Proof.Value.Left.lean ====
/-
What the kernel program's two results hold, in terms of the points' blocks.
-/
module

public import proofs.«01_k».proof.Proof.Run
public import proofs.«01_k».proof.Proof.Value.EdgeArrays
public import proofs.«01_k».proof.Proof.Value.NodeArrays
public import proofs.«01_k».proof.Proof.Value.Prefix

@[expose] public section

set_option maxRecDepth 16384

noncomputable section

namespace Cert.KernelIdeal.Left

open Cert.KernelIdeal Cert.KernelIdeal.Gen Cert.KernelIdeal.Run
open Idealize.ShloMosaic Idealize.ShloMosaic.TcCoe

variable (m : (ℓ : Loc nD τ sig) → Buf (Elt Ideal) ℓ) (c : Dev nD)

theorem edges : V8 m (left m) c main_v56_0 = Edge.msgs (V7 m) c :=
  (after_edge m c main_v56_0 (by decide)).symm.trans
    ((Pipeline.afterRegion_arr (Edge.data (V7 m) c) (V7 m c) launch0.win.arr_inj 9).trans (Edge.arr9 (V7 m) c))
theorem leaving : V8 m (left m) c main_v56_1 = Edge.leaving (V7 m) c :=
  (after_edge m c main_v56_1 (by decide)).symm.trans
    ((Pipeline.afterRegion_arr (Edge.data (V7 m) c) (V7 m c) launch0.win.arr_inj 10).trans (Edge.arr10 (V7 m) c))
theorem entering : V8 m (left m) c main_v56_2 = Edge.entering (V7 m) c :=
  (after_edge m c main_v56_2 (by decide)).symm.trans
    ((Pipeline.afterRegion_arr (Edge.data (V7 m) c) (V7 m c) launch0.win.arr_inj 11).trans (Edge.arr11 (V7 m) c))

/-- The first result: the node kernel's array. -/
theorem node_result (b : Fin 4) (n : Fin 1024) (k : Fin 8) :
    V11 m (left m) c main_v60 (ix3 b n k) = Node.result (V9 m (left m)) c (Node.point b) (ix3 (0 : Fin 1) n k) := by
  have h : V10 m (left m) c main_v60 = Node.nodes (V9 m (left m)) c :=
    (after_node m c main_v60 (by decide)).symm.trans
      (((Pipeline.afterRegion_arr (Node.data (V9 m (leftByEdge m)) c) (V9 m (leftByEdge m) c) launch1.win.arr_inj 7).trans
        (Node.arr7 (V9 m (leftByEdge m)) c)).trans (congrArg (fun W => Node.nodes W c) (funext fun c => (V9_left m c).symm)))
  rw [V11_of m (left m) c main_v60 (by decide), h]
  rfl

/-- The second result: the edge kernel's array, one edge to a row. -/
theorem edge_result (b : Fin 4) (e : Fin 1048576) (k : Fin 8) :
    V11 m (left m) c main_v61 (ix3 b e k)
      = Edge.msgs (V7 m) c (ix3 b ⟨e.val / 16, by have := e.isLt; omega⟩ ⟨e.val % 16 * 8 + k.val, by have := k.isLt; omega⟩) := by
  rw [← edges, ← V9_of m (left m) c main_v56_0 (by decide), ← V10_of m (left m) c main_v56_0 (by decide)]
  unfold V11 hostOps2
  after_reads_at

/-! What the node kernel is handed. -/

theorem v9_arg0 (i : S4x1024x8.Idx) : V9 m (left m) c main_arg0 i = m ((c : Thread nD τ).loc main_arg0) i := by
  rw [V9_of m (left m) c main_arg0 (by decide), V8_of m (left m) c main_arg0 (by decide)]
  exact Prefix.arg0_at m c i
theorem v9_arg4 (i j : Fin 24) : V9 m (left m) c main_arg4 (ix2 i j) = Prefix.weight m c i j := by
  rw [V9_of m (left m) c main_arg4 (by decide), V8_of m (left m) c main_arg4 (by decide),
    V7_of m c main_arg4 (by decide), V6_of m c main_arg4 (by decide), V5_of m c main_arg4 (by decide), V4_of m c main_arg4 (by decide),
    V3_of m c main_arg4 (by decide), V2_of m c main_arg4 (by decide), V1_of m c main_arg4 (by decide)]
  rfl
theorem v9_arg6 (i : S24x8.Idx) : V9 m (left m) c main_arg6 i = m ((c : Thread nD τ).loc main_arg6) i := by
  rw [V9_of m (left m) c main_arg6 (by decide), V8_of m (left m) c main_arg6 (by decide),
    V7_of m c main_arg6 (by decide), V6_of m c main_arg6 (by decide), V5_of m c main_arg6 (by decide), V4_of m c main_arg6 (by decide),
    V3_of m c main_arg6 (by decide), V2_of m c main_arg6 (by decide), V1_of m c main_arg6 (by decide)]
theorem v9_leaving : V9 m (left m) c main_v56_1 = Edge.leaving (V7 m) c := by
  rw [V9_of m (left m) c main_v56_1 (by decide), leaving]
theorem v9_entering (b : Fin 4) (n : Fin 1024) (k : Fin 8) :
    V9 m (left m) c main_v57 (ix3 b n k)
      = Edge.entering (V7 m) c (ix3 b ⟨n.val / 16, by have := n.isLt; omega⟩ ⟨n.val % 16 * 8 + k.val, by have := k.isLt; omega⟩) := by
  rw [← entering]
  unfold V9 hostOps1
  after_reads_at
theorem v9_bias (j : Fin 24) : V9 m (left m) c main_v58 (ix2 (0 : Fin 1) j) = Prefix.bias m c j := by
  have h : V8 m (left m) c main_arg5 = m ((c : Thread nD τ).loc main_arg5) := by
    rw [V8_of m (left m) c main_arg5 (by decide),
    V7_of m c main_arg5 (by decide), V6_of m c main_arg5 (by decide), V5_of m c main_arg5 (by decide), V4_of m c main_arg5 (by decide),
    V3_of m c main_arg5 (by decide), V2_of m c main_arg5 (by decide), V1_of m c main_arg5 (by decide)]
  unfold Prefix.bias
  rw [← h]
  unfold V9 hostOps1
  after_reads_at
theorem v9_bias_update (j : Fin 8) : V9 m (left m) c main_v59 (ix2 (0 : Fin 1) j) = m ((c : Thread nD τ).loc main_arg7) (ix1 j) := by
  have h : V8 m (left m) c main_arg7 = m ((c : Thread nD τ).loc main_arg7) := by
    rw [V8_of m (left m) c main_arg7 (by decide),
    V7_of m c main_arg7 (by decide), V6_of m c main_arg7 (by decide), V5_of m c main_arg7 (by decide), V4_of m c main_arg7 (by decide),
    V3_of m c main_arg7 (by decide), V2_of m c main_arg7 (by decide), V1_of m c main_arg7 (by decide)]
  rw [← h]
  unfold V9 hostOps1
  after_reads_at

end Cert.KernelIdeal.Left

end
-- ==== Proof.Value.Algebra.lean ====
/-
The sums the kernel forms, and the identities that make them the problem's: sums over a row's lanes
collapse where the block matrices hold zeros, and a mean of a linear map is the linear map of means.
-/
module

public import proofs.«01_k».proof.Proof.Value.Spec
public import Mathlib.Data.EReal.Inv
public import Mathlib.Tactic.Ring

@[expose] public section

noncomputable section

namespace Cert.Value

open Idealize.ShloMosaic

/-- The lane of edge `a` of a row and channel `i`. -/
def laneOf (a : Fin 16) (i : Fin 8) : Fin 128 := ⟨a.val * 8 + i.val, by have := a.isLt; have := i.isLt; omega⟩

/-- A sum over a row's lanes, edge by edge. -/
theorem sum_lanes {M : Type} [AddCommMonoid M] (g : Fin 128 → M) : ∑ l, g l = ∑ a : Fin 16, ∑ i : Fin 8, g (laneOf a i) := by
  rw [← Equiv.sum_comp (finProdFinEquiv (m := 16) (n := 8)) g, Fintype.sum_prod_type]
  refine Finset.sum_congr rfl fun a _ => Finset.sum_congr rfl fun i _ => congrArg g (Fin.ext ?_)
  show i.val + 8 * a.val = a.val * 8 + i.val
  omega

/-- A sum over a row's lanes whose terms vanish off edge `a`. -/
theorem sum_lanes_edge {M : Type} [AddCommMonoid M] (g : Fin 128 → M) (a : Fin 16) (h : ∀ k : Fin 128, k.val / 8 ≠ a.val → g k = 0) :
    ∑ l, g l = ∑ i : Fin 8, g (laneOf a i) := by
  rw [sum_lanes, Finset.sum_eq_single a]
  · intro x _ hx
    refine Finset.sum_eq_zero fun i _ => h _ fun e => hx (Fin.ext ?_)
    have e' : (x.val * 8 + i.val) / 8 = a.val := e
    have := i.isLt; omega
  · intro hn; exact absurd (Finset.mem_univ _) hn

/-- A sum over a row's lanes whose terms vanish off channel `i`. -/
theorem sum_lanes_channel {M : Type} [AddCommMonoid M] (g : Fin 128 → M) (i : Fin 8) (h : ∀ k : Fin 128, k.val % 8 ≠ i.val → g k = 0) :
    ∑ l, g l = ∑ a : Fin 16, g (laneOf a i) := by
  rw [sum_lanes]
  refine Finset.sum_congr rfl fun a _ => Finset.sum_eq_single i ?_ ?_
  · intro x _ hx
    refine h _ fun e => hx (Fin.ext ?_)
    have e' : (a.val * 8 + x.val) % 8 = i.val := e
    have := x.isLt; omega
  · intro hn; exact absurd (Finset.mem_univ _) hn

/-- A sum over 1024 vertices by sixteenths, and by rows of sixteen. -/
theorem sum_sixteenths {M : Type} [AddCommMonoid M] (g : Fin 1024 → M) :
    ∑ q : Fin 16, ∑ x : Fin 64, g ⟨q.val * 64 + x.val, by have := q.isLt; have := x.isLt; omega⟩ = ∑ x, g x := by
  rw [← Equiv.sum_comp (finProdFinEquiv (m := 16) (n := 64)) g, Fintype.sum_prod_type]
  refine Finset.sum_congr rfl fun a _ => Finset.sum_congr rfl fun i _ => congrArg g (Fin.ext ?_)
  show a.val * 64 + i.val = i.val + 64 * a.val
  omega
theorem sum_rows {M : Type} [AddCommMonoid M] (g : Fin 1024 → M) :
    ∑ y : Fin 64, ∑ a : Fin 16, g ⟨y.val * 16 + a.val, by have := y.isLt; have := a.isLt; omega⟩ = ∑ x, g x := by
  rw [← Equiv.sum_comp (finProdFinEquiv (m := 64) (n := 16)) g, Fintype.sum_prod_type]
  refine Finset.sum_congr rfl fun a _ => Finset.sum_congr rfl fun i _ => congrArg g (Fin.ext ?_)
  show a.val * 16 + i.val = i.val + 16 * a.val
  omega

/-- The product with a row of the matrix that picks the two ends: the two picked rows' sum. -/
theorem pick (a b : Fin 64) (f g : Fin 64 → EReal) :
    (∑ j : Fin 128, (if j.val < 64 then (if a.val = j.val then 1 else 0) else if b.val = j.val - 64 then 1 else 0)
        * (if h : j.val < 64 then f ⟨j.val, h⟩ else g ⟨j.val - 64, by have := j.isLt; omega⟩)) = f a + g b := by
  rw [Fin.sum_univ_add (a := 64) (b := 64)]
  congr 1
  · rw [Finset.sum_eq_single a]
    · have h : (Fin.castAdd 64 a).val < 64 := a.isLt
      rw [if_pos h, dif_pos h, if_pos (show a.val = (Fin.castAdd 64 a).val from rfl), one_mul]
      rfl
    · intro j _ hj
      have h : (Fin.castAdd 64 j).val < 64 := j.isLt
      rw [if_pos h, if_neg (fun e => hj (Fin.ext e.symm)), zero_mul]
    · intro hn; exact absurd (Finset.mem_univ _) hn
  · rw [Finset.sum_eq_single b]
    · have h : ¬ (Fin.natAdd 64 b).val < 64 := by show ¬ 64 + b.val < 64; omega
      rw [if_neg h, dif_neg h, if_pos (by show b.val = 64 + b.val - 64; omega), one_mul]
      refine congrArg g (Fin.ext ?_)
      show 64 + b.val - 64 = b.val
      omega
    · intro j _ hj
      have h : ¬ (Fin.natAdd 64 j).val < 64 := by show ¬ 64 + j.val < 64; omega
      rw [if_neg h, if_neg (fun e => hj (Fin.ext (by
        have e' : b.val = 64 + j.val - 64 := e
        omega))), zero_mul]
    · intro hn; exact absurd (Finset.mem_univ _) hn

/-- The edge's own value beside the product with its weights. -/
theorem own_and_weights (r s : Fin 8 → ℝ) (c : Fin 8) :
    (∑ i, (r i : EReal) * ((s i : EReal) + if i = c then 1 else 0)) = (∑ i, (r i : EReal) * (s i : EReal)) + (r c : EReal) := by
  have h : ∀ i, (r i : EReal) * ((s i : EReal) + if i = c then 1 else 0) = (r i : EReal) * (s i : EReal) + if i = c then (r i : EReal) else 0 := by
    intro i
    by_cases e : i = c
    · rw [if_pos e, if_pos e]
      norm_cast
      ring
    · rw [if_neg e, if_neg e, add_zero, add_zero]
  simp only [h, Finset.sum_add_distrib, Finset.sum_ite_eq', Finset.mem_univ, if_true]

/-- A finite sum of reals, read in the extended reals. -/
theorem coe_sum {ι : Type} (s : Finset ι) (t : ι → ℝ) : (∑ i ∈ s, (t i : EReal)) = ((∑ i ∈ s, t i : ℝ) : EReal) := by
  classical
  induction s using Finset.induction_on with
  | empty => simp
  | insert a s ha ih => rw [Finset.sum_insert ha, Finset.sum_insert ha, ih, EReal.coe_add]

/-- The mean of reals that one extended real is added to. -/
theorem mean_add (t : Fin 1024 → ℝ) (b : EReal) : (∑ y, ((t y : EReal) + b)) / 1024 = (((∑ y, t y) / 1024 : ℝ) : EReal) + b := by
  have h0 : (1024 : EReal) = ((1024 : ℝ) : EReal) := by norm_cast
  induction b using EReal.rec with
  | bot =>
    have h : (∑ _y : Fin 1024, (⊥ : EReal)) = ⊥ := by
      rw [Finset.sum_const, Finset.card_univ, Fintype.card_fin, EReal.nsmul_eq_mul]
      exact EReal.mul_bot_of_pos (by norm_num)
    simp only [EReal.add_bot, h]
    rw [h0, EReal.bot_div_of_pos_ne_top (by norm_cast) (EReal.coe_ne_top _)]
  | top =>
    have h : (∑ _y : Fin 1024, (⊤ : EReal)) = ⊤ := by
      rw [Finset.sum_const, Finset.card_univ, Fintype.card_fin, EReal.nsmul_eq_mul]
      exact EReal.mul_top_of_pos (by norm_num)
    simp only [EReal.coe_add_top, h]
    rw [h0, EReal.top_div_of_pos_ne_top (by norm_cast) (EReal.coe_ne_top _)]
  | coe v =>
    simp only [← EReal.coe_add, coe_sum]
    rw [h0, ← EReal.coe_div, Finset.sum_add_distrib, Finset.sum_const, Finset.card_univ, Fintype.card_fin, nsmul_eq_mul]
    congr 1
    push_cast
    ring

/-- The mean of the three products is the products of the means. -/
theorem mean_linear (w v : Fin 8 → ℝ) (p : ℝ) (N E : Fin 1024 → Fin 8 → ℝ) :
    (∑ y, (p + (∑ i, N y i * w i) + ∑ i, E y i * v i)) / 1024
      = p + (∑ i, (∑ y, N y i) / 1024 * w i) + ∑ i, (∑ y, E y i) * (1 / 1024) * v i := by
  have h1 : (∑ y, ∑ i, N y i * w i) = ∑ i, (∑ y, N y i) * w i := by
    rw [Finset.sum_comm]; exact Finset.sum_congr rfl fun i _ => (Finset.sum_mul _ _ _).symm
  have h2 : (∑ y, ∑ i, E y i * v i) = ∑ i, (∑ y, E y i) * v i := by
    rw [Finset.sum_comm]; exact Finset.sum_congr rfl fun i _ => (Finset.sum_mul _ _ _).symm
  have h3 : (∑ i, (∑ y, N y i) / 1024 * w i) = (∑ i, (∑ y, N y i) * w i) / 1024 := by
    rw [Finset.sum_div]; exact Finset.sum_congr rfl fun i _ => by ring
  have h4 : (∑ i, (∑ y, E y i) * (1 / 1024) * v i) = (∑ i, (∑ y, E y i) * v i) / 1024 := by
    rw [Finset.sum_div]; exact Finset.sum_congr rfl fun i _ => by ring
  rw [Finset.sum_add_distrib, Finset.sum_add_distrib, h1, h2, h3, h4, Finset.sum_const, Finset.card_univ, Fintype.card_fin, nsmul_eq_mul]
  push_cast
  ring

end Cert.Value

end
-- ==== Proof.Value.Ref1.lean ====
/-
The reference's indices: which element of the table a gather reads, and at which entry a scatter's
update lands.
-/
module

public import proofs.«01_k».proof.Proof.Value.Pre
public import proofs.«01_k».proof.Proof.Gen.ReferenceIdeal.Read
public import Idealize.ShloMosaic.Lib.Routing.OpsPair

@[expose] public section

set_option maxRecDepth 16384

noncomputable section

namespace Cert.Value

open Idealize.ShloMosaic Cert.ReferenceIdeal Cert.ReferenceIdeal.Gen Cert.ReferenceIdeal.Read

theorem toInt_small (n : Nat) (h : n < 2 ^ 31) : (BitVec.ofNat 32 n).toInt = (n : Int) :=
  StableHlo.Predicate.toInt_ofNat_small n h

/-- Row `e` of the gather is the table's row whose number the indices hold at `e`. -/
theorem gather_row (x : FVec Ideal S4x1024x8 .f32) (idx : IVec S1048576x1 32) (b : Fin 4) (e : Fin 1048576) (c : Fin 8) (n : Fin 1024)
    (h : idx (ix2 e (0 : Fin 1)) = BitVec.ofNat 32 n.val) :
    Host.gather gather_S4x1024x8_S1048576x1_S4x1048576x8_02_1_n_n_1_1_418 x idx (ix3 b e c) = x (ix3 b n c) := by
  unfold Host.gather
  refine congrArg x (funext fun a => Fin.ext ?_)
  have hn := n.isLt
  match a with
  | ⟨0, _⟩ => show 0 + 0 + b.val = b.val; omega
  | ⟨1, _⟩ =>
    have hs : GatherDims.siIdx gather_S4x1024x8_S1048576x1_S4x1048576x8_02_1_n_n_1_1_418 (ix3 b e c) ⟨0, by decide⟩ = ix2 e (0 : Fin 1) := by
      funext k
      match k with
      | ⟨0, _⟩ => rfl
      | ⟨1, _⟩ => rfl
    show min (idx (GatherDims.siIdx gather_S4x1024x8_S1048576x1_S4x1048576x8_02_1_n_n_1_1_418 (ix3 b e c) ⟨0, by decide⟩)).toInt.toNat (1024 - 1) + 0 + 0 = n.val
    rw [hs, h, toInt_small _ (by omega)]
    omega
  | ⟨2, _⟩ => show 0 + 0 + c.val = c.val; omega

/-- An update of the segment sums lands at the entry whose vertex its index names. -/
theorem lands_sum (idx : IVec S1048576x1 32) (f : Fin 1048576 → Nat) (hf : ∀ e, f e < 1024) (h : ∀ e, idx (ix2 e (0 : Fin 1)) = BitVec.ofNat 32 (f e))
    (b b' : Fin 4) (e : Fin 1048576) (n : Fin 1024) (c c' : Fin 8) :
    ScatterDims.resultIdx? scatter_S4x1024x8_S1048576x1_S4x1048576x8_02_1_1_1 (ix3 b e c) idx = some (ix3 b' n c') ↔ b = b' ∧ f e = n.val ∧ c = c' := by
  rw [Routing.resultIdx?_eq_some]
  have hs : ScatterDims.siIdx scatter_S4x1024x8_S1048576x1_S4x1048576x8_02_1_1_1 (ix3 b e c) ⟨0, by decide⟩ = ix2 e (0 : Fin 1) := by
    funext k
    match k with
    | ⟨0, _⟩ => rfl
    | ⟨1, _⟩ => rfl
  have h0 : ScatterDims.start scatter_S4x1024x8_S1048576x1_S4x1048576x8_02_1_1_1 (ix3 b e c) idx 0 = 0 := rfl
  have h2 : ScatterDims.start scatter_S4x1024x8_S1048576x1_S4x1048576x8_02_1_1_1 (ix3 b e c) idx 2 = 0 := rfl
  have h1 : ScatterDims.start scatter_S4x1024x8_S1048576x1_S4x1048576x8_02_1_1_1 (ix3 b e c) idx 1 = (f e : Int) := by
    show (idx (ScatterDims.siIdx scatter_S4x1024x8_S1048576x1_S4x1048576x8_02_1_1_1 (ix3 b e c) ⟨0, by decide⟩)).toInt = _
    rw [hs, h, toInt_small _ (by have := hf e; omega)]
  have w0 : ScatterDims.window scatter_S4x1024x8_S1048576x1_S4x1048576x8_02_1_1_1 (ix3 b e c) 0 = b.val := rfl
  have w1 : ScatterDims.window scatter_S4x1024x8_S1048576x1_S4x1048576x8_02_1_1_1 (ix3 b e c) 1 = 0 := rfl
  have w2 : ScatterDims.window scatter_S4x1024x8_S1048576x1_S4x1048576x8_02_1_1_1 (ix3 b e c) 2 = c.val := rfl
  constructor
  · intro hh
    have k0 := hh 0
    have k1 := hh 1
    have k2 := hh 2
    rw [h0, w0] at k0
    rw [h1, w1] at k1
    rw [h2, w2] at k2
    have k0' : (0 : Int) + b.val = b'.val := k0
    have k1' : (f e : Int) + (0 : Nat) = n.val := k1
    have k2' : (0 : Int) + c.val = c'.val := k2
    exact ⟨Fin.ext (by omega), by omega, Fin.ext (by omega)⟩
  · rintro ⟨rfl, hh, rfl⟩ a
    match a with
    | ⟨0, _⟩ => show ScatterDims.start _ _ _ 0 + ((ScatterDims.window _ _ 0 : Nat) : Int) = (b.val : Int); rw [h0, w0]; omega
    | ⟨1, _⟩ => show ScatterDims.start _ _ _ 1 + ((ScatterDims.window _ _ 1 : Nat) : Int) = (n.val : Int); rw [h1, w1]; omega
    | ⟨2, _⟩ => show ScatterDims.start _ _ _ 2 + ((ScatterDims.window _ _ 2 : Nat) : Int) = (c.val : Int); rw [h2, w2]; omega

/-- An update of the counts lands at the entry its index names. -/
theorem lands_count (idx : IVec S1048576x1 32) (f : Fin 1048576 → Nat) (hf : ∀ e, f e < 1024) (h : ∀ e, idx (ix2 e (0 : Fin 1)) = BitVec.ofNat 32 (f e))
    (e : Fin 1048576) (n : Fin 1024) :
    ScatterDims.resultIdx? scatter_S1024_S1048576x1_S1048576_n_0_0_1 (ix1 e) idx = some (ix1 n) ↔ f e = n.val := by
  rw [Routing.resultIdx?_eq_some]
  have hs : ScatterDims.siIdx scatter_S1024_S1048576x1_S1048576_n_0_0_1 (ix1 e) ⟨0, by decide⟩ = ix2 e (0 : Fin 1) := by
    funext k
    match k with
    | ⟨0, _⟩ => rfl
    | ⟨1, _⟩ => rfl
  have h1 : ScatterDims.start scatter_S1024_S1048576x1_S1048576_n_0_0_1 (ix1 e) idx 0 = (f e : Int) := by
    show (idx (ScatterDims.siIdx scatter_S1024_S1048576x1_S1048576_n_0_0_1 (ix1 e) ⟨0, by decide⟩)).toInt = _
    rw [hs, h, toInt_small _ (by have := hf e; omega)]
  have w1 : ScatterDims.window scatter_S1024_S1048576x1_S1048576_n_0_0_1 (ix1 e) 0 = 0 := rfl
  constructor
  · intro hh
    have k1 := hh 0
    rw [h1, w1] at k1
    have k1' : (f e : Int) + (0 : Nat) = n.val := k1
    omega
  · intro hh a
    match a with
    | ⟨0, _⟩ => show ScatterDims.start _ _ _ 0 + ((ScatterDims.window _ _ 0 : Nat) : Int) = (n.val : Int); rw [h1, w1]; omega

/-- A segment sum at an entry: the start plus the updates of the edges whose vertex it is. -/
theorem segment_sum (x : FVec Ideal S4x1024x8 .f32) (idx : IVec S1048576x1 32) (upd : FVec Ideal S4x1048576x8 .f32) (f : Fin 1048576 → Nat)
    (hf : ∀ e, f e < 1024) (h : ∀ e, idx (ix2 e (0 : Fin 1)) = BitVec.ofNat 32 (f e)) (b : Fin 4) (n : Fin 1024) (c : Fin 8) :
    Host.scatterAdd scatter_S4x1024x8_S1048576x1_S4x1048576x8_02_1_1_1 x idx upd (ix3 b n c)
      = x (ix3 b n c) + ∑ e, if f e = n.val then upd (ix3 b e c) else 0 := by
  have eta : ∀ j : S4x1048576x8.Idx, ∃ (b : Fin 4) (e : Fin 1048576) (c : Fin 8), j = ix3 b e c := fun j => ⟨j 0, j 1, j 2, funext fun a => by
    match a with
    | ⟨0, _⟩ => rfl
    | ⟨1, _⟩ => rfl
    | ⟨2, _⟩ => rfl⟩
  show x (ix3 b n c) + ∑ j ∈ Finset.univ.filter (fun j => ScatterDims.resultIdx? scatter_S4x1024x8_S1048576x1_S4x1048576x8_02_1_1_1 j idx = some (ix3 b n c)), upd j = _
  refine congrArg (x (ix3 b n c) + ·) ?_
  rw [← Finset.sum_filter]
  refine Finset.sum_nbij' (fun j => j 1) (fun e => ix3 b e c) ?_ ?_ ?_ ?_ ?_
  · intro j hj
    obtain ⟨b', e', c', rfl⟩ := eta j
    have hj' := (lands_sum idx f hf h _ _ _ _ _ _).1 (Finset.mem_filter.1 hj).2
    exact Finset.mem_filter.2 ⟨Finset.mem_univ _, hj'.2.1⟩
  · intro e he
    exact Finset.mem_filter.2 ⟨Finset.mem_univ _, (lands_sum idx f hf h _ _ _ _ _ _).2 ⟨rfl, (Finset.mem_filter.1 he).2, rfl⟩⟩
  · intro j hj
    obtain ⟨b', e', c', rfl⟩ := eta j
    have hj' := (lands_sum idx f hf h _ _ _ _ _ _).1 (Finset.mem_filter.1 hj).2
    rw [← hj'.1, ← hj'.2.2]
    rfl
  · intro e _; rfl
  · intro j hj
    obtain ⟨b', e', c', rfl⟩ := eta j
    have hj' := (lands_sum idx f hf h _ _ _ _ _ _).1 (Finset.mem_filter.1 hj).2
    rw [← hj'.1, ← hj'.2.2]
    rfl

/-- A count at an entry is the number of edges whose vertex it is. -/
theorem count_at (x : IVec S1024 32) (hx : ∀ i, x i = 0#32) (idx : IVec S1048576x1 32) (upd : IVec S1048576 32) (hupd : ∀ i, upd i = 1#32) (f : Fin 1048576 → Nat)
    (hf : ∀ e, f e < 1024) (h : ∀ e, idx (ix2 e (0 : Fin 1)) = BitVec.ofNat 32 (f e)) (n : Fin 1024) :
    Host.scatter scatter_S1024_S1048576x1_S1048576_n_0_0_1 IntOp.addi x idx upd (ix1 n)
      = BitVec.ofNat 32 (∑ e : Fin 1048576, if f e = n.val then 1 else 0) := by
  have fold : ∀ (p : Fin 1048576 → Prop) [DecidablePred p] (l : List (Fin 1048576)) (z : Nat),
      l.foldl (fun a e => if p e then IntOp.addi a 1#32 else a) (BitVec.ofNat 32 z) = BitVec.ofNat 32 (z + (l.map fun e => if p e then 1 else 0).sum) := by
    intro p _ l
    induction l with
    | nil => intro z; rfl
    | cons e l ih =>
      intro z
      rw [List.foldl_cons, List.map_cons, List.sum_cons]
      by_cases hp : p e
      · rw [if_pos hp, if_pos hp]
        have : IntOp.addi (BitVec.ofNat 32 z) 1#32 = BitVec.ofNat 32 (z + 1) := (BitVec.ofNat_add z 1).symm
        rw [this, ih, Nat.add_assoc]
      · rw [if_neg hp, if_neg hp, ih, Nat.zero_add]
  rw [Routing.scatter_at, hx]
  have hN : S1048576.numel = 1048576 := Shape.numel_rank1 _
  have hs : ∀ k : Fin S1048576.numel, S1048576.rowMajor.symm k = ix1 (k.cast hN) := fun k =>
    (S1048576.rowMajor.symm_apply_eq).2 (Fin.ext (by rw [Shape.rowMajor_val_one]; rfl))
  have hstep : (fun (a : BitVec 32) (k : Fin S1048576.numel) => if ScatterDims.resultIdx? scatter_S1024_S1048576x1_S1048576_n_0_0_1 (S1048576.rowMajor.symm k) idx = some (ix1 n) then IntOp.addi a (upd (S1048576.rowMajor.symm k)) else a)
      = fun a k => if f (k.cast hN) = n.val then IntOp.addi a 1#32 else a := by
    funext a k
    rw [hs, hupd]
    exact if_congr (lands_count idx f hf h _ _) rfl rfl
  rw [hstep]
  have hl : (List.finRange S1048576.numel).foldl (fun (a : BitVec 32) k => if f (k.cast hN) = n.val then IntOp.addi a 1#32 else a) 0#32
      = ((List.finRange S1048576.numel).map (Fin.cast hN)).foldl (fun a e => if f e = n.val then IntOp.addi a 1#32 else a) 0#32 := by
    rw [List.foldl_map]
  have hm : (List.finRange S1048576.numel).map (Fin.cast hN) = List.finRange 1048576 := by
    clear hl hstep hs
    generalize S1048576.numel = N at hN
    subst hN
    exact List.map_id _
  rw [hl, hm]
  refine (fold (fun e => f e = n.val) (List.finRange 1048576) 0).trans ?_
  rw [Nat.zero_add]
  refine congrArg (BitVec.ofNat 32) ?_
  rw [← List.sum_ofFn, List.ofFn_eq_map]

end Cert.Value

end
-- ==== Proof.Value.Ref2.lean ====
/-
The reference's two results at an element, on the complete graph, are the problem's formulas.
-/
module

public import proofs.«01_k».proof.Proof.Value.Ref1
public import Idealize.ShloMosaic.Lib.WordCmp

@[expose] public section

set_option maxRecDepth 16384

noncomputable section

namespace Cert.Value

open Idealize.ShloMosaic Cert.ReferenceIdeal Cert.ReferenceIdeal.Gen Cert.ReferenceIdeal.Read

/-- The float arguments, by their coordinates. -/
def args (x0 : FVec Ideal S4x1024x8 .f32) (x1 : FVec Ideal S4x1048576x8 .f32) (x4 : FVec Ideal S24x24 .f32) (x5 : FVec Ideal S24 .f32)
    (x6 : FVec Ideal S24x8 .f32) (x7 : FVec Ideal S8 .f32) : Args where
  nv b n c := x0 (ix3 b n c)
  ev b e c := x1 (ix3 b e c)
  W i j := x4 (ix2 i j)
  b j := x5 (ix1 j)
  U i c := x6 (ix2 i c)
  u c := x7 (ix1 c)

variable (x0 : FVec Ideal S4x1024x8 .f32) (x1 : FVec Ideal S4x1048576x8 .f32) (x2 x3 : IVec S1048576 32) (x4 : FVec Ideal S24x24 .f32)
    (x5 : FVec Ideal S24 .f32) (x6 : FVec Ideal S24x8 .f32) (x7 : FVec Ideal S8 .f32)

/-- A word that is a vertex's number is not negative, and at most 1023. -/
theorem word_facts (n : Fin 1024) : (IntOp.cmpi .slt (BitVec.ofNat 32 n.val) 0#32 = 0#1) ∧ (IntOp.cmpi .sge (BitVec.ofNat 32 n.val) 0#32 = 1#1)
    ∧ (IntOp.cmpi .sle (BitVec.ofNat 32 n.val) 1023#32 = 1#1) ∧ (IntOp.maxsi 0#32 (BitVec.ofNat 32 n.val) = BitVec.ofNat 32 n.val) := by
  have hn := n.isLt
  refine ⟨?_, ?_, ?_, ?_⟩
  · exact (WordCmp.cmpi_slt_ofNat_eq_zero_iff (by omega) (by decide)).2 (by omega)
  · rw [WordCmp.cmpi_sge_eq, toInt_small n.val (by omega)]
    simp
  · exact (WordCmp.cmpi_sle_ofNat_eq_one_iff (by omega) (by decide)).2 (by omega)
  · unfold IntOp.maxsi
    refine if_neg fun hs => ?_
    have hs' : (BitVec.ofNat 32 n.val).toInt < (0#32 : BitVec 32).toInt := BitVec.slt_iff_toInt_lt.1 hs
    rw [toInt_small n.val (by omega)] at hs'
    have : ((0#32 : BitVec 32).toInt) = 0 := rfl
    omega

variable (f : Fin 1048576 → Fin 1024)

/-- The indices the lookup reads at: in range, they are the words themselves. -/
theorem take_index (h : ∀ e, x2 (ix1 e) = BitVec.ofNat 32 (f e).val) (e : Fin 1048576) :
    val_main_call4_v5 (F := Ideal) x2 (ix2 e (0 : Fin 1)) = BitVec.ofNat 32 (f e).val := by
  pointwise [val_main_call4_v5, val_main_call4_v4, val_main_call4_v1, val_main_call4_v0, val_main_call4_c]
  rw [h, (word_facts (f e)).1]
  exact Scalar.select_of_eq_zero rfl _ _

/-- The reference's lookup of the vertices' values, at indices in range. -/
theorem take_at (h : ∀ e, x2 (ix1 e) = BitVec.ofNat 32 (f e).val) (b : Fin 4) (e : Fin 1048576) (c : Fin 8) :
    val_main_v28 (F := Ideal) x0 x2 (ix3 b e c) = x0 (ix3 b (f e) c) := by
  have h13 : val_main_call4_v13 (F := Ideal) x0 x2 (ix3 b e c) = x0 (ix3 b (f e) c) := gather_row x0 _ b e c (f e) (take_index x2 f h e)
  have h12 : val_main_call4_v12 (F := Ideal) x2 (ix1 e) = 1#1 := by
    refine Host.reduce_andi_one _ _ _ _ _ rfl fun i => ?_
    obtain ⟨e', z, rfl⟩ : ∃ (e' : Fin 1048576) (z : Fin 1), i = ix2 e' z := ⟨i 0, i 1, eq_ix2 i⟩
    obtain rfl : z = 0 := Subsingleton.elim _ _
    show IntOp.andi (IntOp.cmpi .sge (val_main_call4_v5 (F := Ideal) x2 (ix2 e' 0)) 0#32) (IntOp.cmpi .sle (val_main_call4_v5 (F := Ideal) x2 (ix2 e' 0)) 1023#32) = 1#1
    rw [take_index x2 f h, (word_facts (f e')).2.1, (word_facts (f e')).2.2.1]
    rfl
  have h14 : val_main_call4_v14 (F := Ideal) x2 (ix3 b e c) = val_main_call4_v12 (F := Ideal) x2 (ix1 e) := by
    pointwise [val_main_call4_v14]
  rw [val_main_v28_apply, h14, h12, h13]
  exact Scalar.select_of_eq_one rfl _ _

/-- The second lookup is the first, at the other indices. -/
theorem take_same : val_main_v29 (F := Ideal) x0 x3 = val_main_v28 (F := Ideal) x0 x3 := rfl

/-- The counts of the edges at each vertex, where they are 1024. -/
theorem count_index (h : ∀ e, x2 (ix1 e) = BitVec.ofNat 32 (f e).val) (e : Fin 1048576) :
    val_main_v7 (F := Ideal) x2 (ix2 e (0 : Fin 1)) = BitVec.ofNat 32 (f e).val := by
  have h1 : val_main_v1 (F := Ideal) x2 (ix1 e) = BitVec.ofNat 32 (f e).val := by
    show IntOp.maxsi 0#32 (x2 (ix1 e)) = _
    rw [h, (word_facts (f e)).2.2.2]
  have h6 : val_main_v7 (F := Ideal) x2 (ix2 e (0 : Fin 1)) = val_main_v6 (F := Ideal) x2 (ix1 e) := by pointwise [val_main_v7]
  rw [h6]
  show Scalar.select (IntOp.cmpi .slt (val_main_v1 (F := Ideal) x2 (ix1 e)) 0#32) _ (val_main_v1 (F := Ideal) x2 (ix1 e)) = _
  rw [h1, (word_facts (f e)).1]
  exact Scalar.select_of_eq_zero rfl _ _

theorem count_is (h : ∀ e, x2 (ix1 e) = BitVec.ofNat 32 (f e).val) (hc : ∀ n : Fin 1024, (∑ e : Fin 1048576, if (f e).val = n.val then 1 else 0) = 1024) (n : Fin 1024) :
    val_main_v23 (F := Ideal) x2 (ix1 n) = (1024 : EReal) := by
  have h9 : val_main_v9 (F := Ideal) x2 (ix1 n) = 1024#32 := by
    have := count_at (val_main_v0 (F := Ideal)) (fun _ => rfl) (val_main_v7 (F := Ideal) x2) (val_main_v8 (F := Ideal)) (fun _ => rfl) (fun e => (f e).val) (fun e => (f e).isLt) (count_index x2 f h) n
    rw [hc] at this
    exact this
  have h23 : val_main_v23 (F := Ideal) x2 (ix1 n) = (FloatOps.sitofp .f32 (Scalar.select (IntOp.cmpi .eq (val_main_v9 (F := Ideal) x2 (ix1 n)) 0#32) 1#32 (val_main_v9 (F := Ideal) x2 (ix1 n))) : Ideal .f32) := by
    pointwise [val_main_v23, val_main_v22, val_main_v21, val_main_v20, val_main_c_9, val_main_call2_v1, val_main_call2_v0, val_main_c_10]
    rfl
  rw [h23, h9]
  have hs : Scalar.select (IntOp.cmpi .eq 1024#32 0#32) 1#32 1024#32 = 1024#32 := rfl
  rw [hs]
  show (((1024#32 : BitVec 32).toInt : ℝ) : EReal) = _
  have : ((1024#32 : BitVec 32).toInt) = 1024 := rfl
  rw [this]
  norm_num
  rfl

theorem counts_same : val_main_v27 (F := Ideal) x3 = val_main_v23 (F := Ideal) x3 := rfl

variable (g : Fin 1048576 → Fin 1024)

/-- The message layer at an edge. -/
theorem message_at (h : ∀ e, x2 (ix1 e) = BitVec.ofNat 32 (f e).val) (h' : ∀ e, x3 (ix1 e) = BitVec.ofNat 32 (g e).val) (b : Fin 4) (e : Fin 1048576) (j : Fin 24) :
    val_main_v34 (F := Ideal) x0 x1 x2 x3 x4 x5 (ix3 b e j)
      = (∑ k : Fin 8, x0 (ix3 b (f e) k) * x4 (ix2 (lo k) j)) + (∑ k : Fin 8, x0 (ix3 b (g e) k) * x4 (ix2 (mid k) j)) + (∑ k : Fin 8, x1 (ix3 b e k) * x4 (ix2 (hi k) j)) + x5 (ix1 j) := by
  pointwise [val_main_v34, val_main_v33, val_main_v32, val_main_v31, val_main_v30]
  refine congrArg (· + x5 (ix1 j)) ?_
  rw [sum_thirds]
  refine congrArg₂ (· + ·) (congrArg₂ (· + ·) ?_ ?_) ?_ <;> refine Finset.sum_congr rfl fun k _ => ?_
  · have hk : (lo k).val < 8 := k.isLt
    rw [dif_pos hk]
    exact congrArg (· * x4 (ix2 (lo k) j)) (take_at x0 x2 f h b e k)
  · have hk : ¬ (mid k).val < 8 := by show ¬ 8 + k.val < 8; omega
    have hk' : (mid k).val - 8 < 8 := by have := k.isLt; show 8 + k.val - 8 < 8; omega
    rw [dif_neg hk, dif_pos hk']
    have hi : (⟨(mid k).val - 8, hk'⟩ : Fin 8) = k := Fin.ext (by show 8 + k.val - 8 = k.val; omega)
    rw [hi, take_same, take_at x0 x3 g h']
  · have hk : ¬ (hi k).val < 8 := by show ¬ 16 + k.val < 8; omega
    have hk' : ¬ (hi k).val - 8 < 8 := by show ¬ 16 + k.val - 8 < 8; omega
    rw [dif_neg hk, dif_neg hk']
    have hi' : ∀ hh, (⟨(hi k).val - 8 - 8, hh⟩ : Fin 8) = k := fun hh => Fin.ext (by show 16 + k.val - 8 - 8 = k.val; omega)
    rw [hi']

end Cert.Value

end
-- ==== Proof.Value.Ref3.lean ====
/-
The reference's two results, on the complete graph, are the problem's formulas.
-/
module

public import proofs.«01_k».proof.Proof.Value.Ref2

@[expose] public section

set_option maxRecDepth 16384

noncomputable section

namespace Cert.Value

open Idealize.ShloMosaic Cert.ReferenceIdeal Cert.ReferenceIdeal.Gen Cert.ReferenceIdeal.Read

/-- The vertex an edge leaves, and the vertex it enters. -/
def source (e : Fin 1048576) : Fin 1024 := ⟨e.val / 1024, by have := e.isLt; omega⟩
def target (e : Fin 1048576) : Fin 1024 := ⟨e.val % 1024, by omega⟩

theorem source_edge (x y : Fin 1024) : source (edge x y) = x := Fin.ext (by
  show (x.val * 1024 + y.val) / 1024 = x.val; have := y.isLt; omega)
theorem target_edge (x y : Fin 1024) : target (edge x y) = y := Fin.ext (by
  show (x.val * 1024 + y.val) % 1024 = y.val; have := y.isLt; omega)
theorem edge_ends (e : Fin 1048576) : edge (source e) (target e) = e := Fin.ext (by
  show e.val / 1024 * 1024 + e.val % 1024 = e.val; omega)

theorem count_source (n : Fin 1024) : (∑ e : Fin 1048576, if (source e).val = n.val then 1 else 0) = 1024 := by
  have := sum_leaving (fun _ => 1) n
  rw [Finset.sum_const, Finset.card_univ, Fintype.card_fin] at this
  exact this
theorem count_target (n : Fin 1024) : (∑ e : Fin 1048576, if (target e).val = n.val then 1 else 0) = 1024 := by
  have := sum_entering (fun _ => 1) n
  rw [Finset.sum_const, Finset.card_univ, Fintype.card_fin] at this
  exact this

variable (x0 : FVec Ideal S4x1024x8 .f32) (x1 : FVec Ideal S4x1048576x8 .f32) (x2 x3 : IVec S1048576 32) (x4 : FVec Ideal S24x24 .f32)
    (x5 : FVec Ideal S24 .f32) (x6 : FVec Ideal S24x8 .f32) (x7 : FVec Ideal S8 .f32)
    (hs : ∀ e, x2 (ix1 e) = BitVec.ofNat 32 (source e).val) (ht : ∀ e, x3 (ix1 e) = BitVec.ofNat 32 (target e).val)

include hs ht

theorem message_is (b : Fin 4) (x y : Fin 1024) (j : Fin 24) :
    val_main_v34 (F := Ideal) x0 x1 x2 x3 x4 x5 (ix3 b (edge x y) j) = message (args x0 x1 x4 x5 x6 x7) b x y j := by
  rw [message_at x0 x1 x2 x3 x4 x5 source target hs ht, source_edge, target_edge]
  rfl

/-- The edges' new values. -/
theorem reference_edge (b : Fin 4) (x y : Fin 1024) (c : Fin 8) :
    val_main_v58 (F := Ideal) x0 x1 x2 x3 x4 x5 (ix3 b (edge x y) c) = newEdge (args x0 x1 x4 x5 x6 x7) b x y c := by
  have h : val_main_v58 (F := Ideal) x0 x1 x2 x3 x4 x5 (ix3 b (edge x y) c)
      = (x1 (ix3 b (edge x y) c) : EReal) + val_main_v34 (F := Ideal) x0 x1 x2 x3 x4 x5 (ix3 b (edge x y) (hi c)) := by
    pointwise [val_main_v58, val_main_v37]
  rw [h, message_is x0 x1 x2 x3 x4 x5 x6 x7 hs ht]
  rfl

theorem mean_out (b : Fin 4) (n : Fin 1024) (k : Fin 8) :
    val_main_v48 (F := Ideal) x0 x1 x2 x3 x4 x5 (ix3 b n k) = meanOut (args x0 x1 x4 x5 x6 x7) b n k := by
  have h39 : ∀ e, val_main_v39 (F := Ideal) x2 (ix2 e (0 : Fin 1)) = BitVec.ofNat 32 (source e).val := fun e => by
    rw [← hs]
    pointwise [val_main_v39]
  have h40 : val_main_v40 (F := Ideal) (ix3 b n k) = (0 : EReal) := by
    pointwise [val_main_v40, val_main_v38, val_main_cst]
  have h35 : ∀ e, val_main_v35 (F := Ideal) x0 x1 x2 x3 x4 x5 (ix3 b e k) = val_main_v34 (F := Ideal) x0 x1 x2 x3 x4 x5 (ix3 b e (lo k)) := fun e => by
    pointwise [val_main_v35]
  have h41 : val_main_v41 (F := Ideal) x0 x1 x2 x3 x4 x5 (ix3 b n k) = ∑ y, message (args x0 x1 x4 x5 x6 x7) b n y (lo k) := by
    refine (segment_sum _ _ _ (fun e => (source e).val) (fun e => (source e).isLt) h39 b n k).trans ?_
    rw [h40, zero_add]
    refine (sum_leaving (fun e => val_main_v35 (F := Ideal) x0 x1 x2 x3 x4 x5 (ix3 b e k)) n).trans ?_
    refine Finset.sum_congr rfl fun y _ => ?_
    rw [h35, message_is x0 x1 x2 x3 x4 x5 x6 x7 hs ht]
  have h47 : val_main_v47 (F := Ideal) x2 (ix3 b n k) = (1024 : EReal) := by
    rw [← count_is x2 source hs count_source n]
    pointwise [val_main_v47, val_main_v46]
  have h48 : val_main_v48 (F := Ideal) x0 x1 x2 x3 x4 x5 (ix3 b n k) = Ideal.div (val_main_v41 (F := Ideal) x0 x1 x2 x3 x4 x5 (ix3 b n k)) (val_main_v47 (F := Ideal) x2 (ix3 b n k)) := rfl
  rw [h48, h41, h47]
  exact if_neg (by norm_num)

theorem mean_in (b : Fin 4) (n : Fin 1024) (k : Fin 8) :
    val_main_v51 (F := Ideal) x0 x1 x2 x3 x4 x5 (ix3 b n k) = meanIn (args x0 x1 x4 x5 x6 x7) b n k := by
  have h43 : ∀ e, val_main_v43 (F := Ideal) x3 (ix2 e (0 : Fin 1)) = BitVec.ofNat 32 (target e).val := fun e => by
    rw [← ht]
    pointwise [val_main_v43]
  have h44 : val_main_v44 (F := Ideal) (ix3 b n k) = (0 : EReal) := by
    pointwise [val_main_v44, val_main_v42, val_main_cst_13]
  have h36 : ∀ e, val_main_v36 (F := Ideal) x0 x1 x2 x3 x4 x5 (ix3 b e k) = val_main_v34 (F := Ideal) x0 x1 x2 x3 x4 x5 (ix3 b e (mid k)) := fun e => by
    pointwise [val_main_v36]
  have h45 : val_main_v45 (F := Ideal) x0 x1 x2 x3 x4 x5 (ix3 b n k) = ∑ x, message (args x0 x1 x4 x5 x6 x7) b x n (mid k) := by
    refine (segment_sum _ _ _ (fun e => (target e).val) (fun e => (target e).isLt) h43 b n k).trans ?_
    rw [h44, zero_add]
    refine (sum_entering (fun e => val_main_v36 (F := Ideal) x0 x1 x2 x3 x4 x5 (ix3 b e k)) n).trans ?_
    refine Finset.sum_congr rfl fun x _ => ?_
    rw [h36, message_is x0 x1 x2 x3 x4 x5 x6 x7 hs ht]
  have h50 : val_main_v50 (F := Ideal) x3 (ix3 b n k) = (1024 : EReal) := by
    rw [← count_is x3 target ht count_target n, ← counts_same]
    pointwise [val_main_v50, val_main_v49]
  have h51 : val_main_v51 (F := Ideal) x0 x1 x2 x3 x4 x5 (ix3 b n k) = Ideal.div (val_main_v45 (F := Ideal) x0 x1 x2 x3 x4 x5 (ix3 b n k)) (val_main_v50 (F := Ideal) x3 (ix3 b n k)) := rfl
  rw [h51, h45, h50]
  exact if_neg (by norm_num)

/-- The vertices' new values. -/
theorem reference_node (b : Fin 4) (n : Fin 1024) (c : Fin 8) :
    val_main_v57 (F := Ideal) x0 x1 x2 x3 x4 x5 x6 x7 (ix3 b n c) = newNode (args x0 x1 x4 x5 x6 x7) b n c := by
  pointwise [val_main_v57, val_main_v56, val_main_v55, val_main_v54, val_main_v53, val_main_v52]
  unfold newNode
  refine congrArg₂ (· + ·) rfl (congrArg₂ (· + ·) ?_ rfl)
  rw [sum_thirds]
  refine congrArg₂ (· + ·) (congrArg₂ (· + ·) ?_ ?_) ?_ <;> refine Finset.sum_congr rfl fun k _ => ?_
  · have hk : (lo k).val < 8 := k.isLt
    rw [dif_pos hk]
    exact congrArg (· * x6 (ix2 (lo k) c)) (mean_out x0 x1 x2 x3 x4 x5 x6 x7 hs ht b n k)
  · have hk : ¬ (mid k).val < 8 := by show ¬ 8 + k.val < 8; omega
    have hk' : (mid k).val - 8 < 8 := by have := k.isLt; show 8 + k.val - 8 < 8; omega
    rw [dif_neg hk, dif_pos hk']
    have hi : (⟨(mid k).val - 8, hk'⟩ : Fin 8) = k := Fin.ext (by show 8 + k.val - 8 = k.val; omega)
    rw [hi, mean_in x0 x1 x2 x3 x4 x5 x6 x7 hs ht]
    rfl
  · have hk : ¬ (hi k).val < 8 := by show ¬ 16 + k.val < 8; omega
    have hk' : ¬ (hi k).val - 8 < 8 := by show ¬ 16 + k.val - 8 < 8; omega
    rw [dif_neg hk, dif_neg hk']
    have hi' : ∀ hh, (⟨(hi k).val - 8 - 8, hh⟩ : Fin 8) = k := fun hh => Fin.ext (by show 16 + k.val - 8 - 8 = k.val; omega)
    rw [hi']
    rfl

end Cert.Value

end
-- ==== Proof.Value.EdgeEqual.lean ====
/-
The kernel's second result is the edges' new values, where the vertices' and edges' values and the
message layer's weights are finite; and the edge kernel's two arrays of sums are the sums of the
edges' values over those that leave and those that enter a vertex.
-/
module

public import proofs.«01_k».proof.Proof.Value.Left
public import proofs.«01_k».proof.Proof.Value.Algebra
public import proofs.«01_k».proof.Proof.Value.Ref3

@[expose] public section

set_option maxRecDepth 16384

noncomputable section

namespace Cert.KernelIdeal.Left

open Cert.KernelIdeal Cert.KernelIdeal.Gen Cert.KernelIdeal.Run
open Idealize.ShloMosaic Idealize.ShloMosaic.TcCoe
open Cert.Value (Args lo mid hi edge laneOf)

variable (m : (ℓ : Loc nD τ sig) → Buf (Elt Ideal) ℓ) (c : Dev nD)

/-- The float arguments the kernel program is handed. -/
def given : Args := Value.args (m ((c : Thread nD τ).loc main_arg0)) (m ((c : Thread nD τ).loc main_arg1)) (m ((c : Thread nD τ).loc main_arg4))
  (m ((c : Thread nD τ).loc main_arg5)) (m ((c : Thread nD τ).loc main_arg6)) (m ((c : Thread nD τ).loc main_arg7))

theorem lane_laneOf (a : Fin 16) (i : Fin 8) : Prefix.lane (laneOf a i) = i := Fin.ext (by
  show (a.val * 8 + i.val) % 8 = i.val; have := i.isLt; omega)
theorem laneOf_div (a : Fin 16) (i : Fin 8) : (laneOf a i).val / 8 = a.val := by
  show (a.val * 8 + i.val) / 8 = a.val; have := i.isLt; omega
theorem laneOf_mod (a : Fin 16) (i : Fin 8) : (laneOf a i).val % 8 = i.val := by
  show (a.val * 8 + i.val) % 8 = i.val; have := i.isLt; omega

/-- Row `r` of the flattened edges, lane by lane: edge `16 * r + a`. -/
theorem flat_at (b : Fin 4) (r : Fin 65536) (a : Fin 16) (i : Fin 8) :
    Edge.flat (V7 m) c b r (laneOf a i) = (given m c).ev b ⟨r.val * 16 + a.val, by have := r.isLt; have := a.isLt; omega⟩ i := by
  refine (Prefix.v0_at m c b r (laneOf a i)).trans ?_
  show m ((c : Thread nD τ).loc main_arg1) _ = m ((c : Thread nD τ).loc main_arg1) (ix3 b _ i)
  refine congrArg _ ?_
  congr 1
  · exact Fin.ext (by show r.val * 16 + (laneOf a i).val / 8 = _; rw [laneOf_div])
  · exact lane_laneOf a i

/-- Vertex row `r` of the flattened vertices: vertex `16 * r + a`. -/
theorem nodes_at (b : Fin 4) (r : Fin 64) (a : Fin 16) (i : Fin 8) :
    (V7 m c main_v1 (ix3 b r (laneOf a i)) : Ideal .f32) = (given m c).nv b ⟨r.val * 16 + a.val, by have := r.isLt; have := a.isLt; omega⟩ i := by
  refine (Prefix.v1_at m c b r (laneOf a i)).trans ?_
  show m ((c : Thread nD τ).loc main_arg0) _ = m ((c : Thread nD τ).loc main_arg0) (ix3 b _ i)
  refine congrArg _ ?_
  congr 1
  · exact Fin.ext (by show r.val * 16 + (laneOf a i).val / 8 = _; rw [laneOf_div])
  · exact lane_laneOf a i

/-- What is kept for a batch: the second ends' products and the bias. -/
theorem kept_at (t : Fin cfg0.N) (r : Fin 64) (a : Fin 16) (k : Fin 8) :
    (Edge.kept (V7 m) c t (ix2 r (laneOf a k)) : EReal)
      = (∑ i, (given m c).nv (Edge.batch t) ⟨r.val * 16 + a.val, by have := r.isLt; have := a.isLt; omega⟩ i * (given m c).W (mid i) (hi k)) + (given m c).b (hi k) := by
  have hb : Edge.batch (Edge.firstOf t) = Edge.batch t := Fin.ext (by
    show (t.val - t.val % 16) / 16 = t.val / 16; omega)
  unfold Edge.kept
  rw [Edge.part_at]
  simp only [Edge.blk2_at, Edge.blk5_at, Edge.blk8_at, hb]
  refine congrArg₂ (fun x y : EReal => x + y) ?_ ?_
  · rw [Value.sum_lanes_edge _ a]
    · refine Finset.sum_congr rfl fun i _ => ?_
      refine congrArg₂ (fun x y : EReal => x * y) (nodes_at m c _ r a i) ((Prefix.v19_at m c (laneOf a i) (laneOf a k)).trans ?_)
      rw [laneOf_div, laneOf_div, if_pos rfl, one_mul, lane_laneOf, lane_laneOf]
      rfl
    · intro l hl
      refine (congrArg (fun y : EReal => _ * y) ((Prefix.v19_at m c l (laneOf a k)).trans ?_)).trans (mul_zero _)
      rw [laneOf_div, if_neg hl, zero_mul]
  · refine (Prefix.v36_at m c (laneOf a k)).trans ?_
    rw [lane_laneOf]
    rfl

/-- The edge kernel's new value at one edge and channel, in terms of what it reads of its blocks. -/
theorem msg_is (x0 : Vec Ideal S1x4096x128 .f32) (x1 : Vec Ideal S1x64x8 .f32) (x3 : Vec Ideal S4096x128 .bf16) (x4 : Vec Ideal S128x128 .f32)
    (x6 : Vec Ideal S8x128 .f32) (p : Vec Ideal S64x128 .f32) (rr : Fin 4096) (xi yr : Fin 64) (a : Fin 16) (k : Fin 8) (r s : Fin 8 → ℝ)
    (n w : Fin 8 → EReal) (z : EReal)
    (h0 : ∀ i, x0 (ix3 (0 : Fin 1) rr (laneOf a i)) = (r i : EReal))
    (h4 : ∀ i, x4 (ix2 (laneOf a i) (laneOf a k)) = ((s i : EReal) + if i = k then 1 else 0 : EReal))
    (h4' : ∀ l : Fin 128, l.val / 8 ≠ a.val → x4 (ix2 l (laneOf a k)) = (0 : EReal))
    (h3 : ∀ j : Fin 128, x3 (ix2 rr j) = (if j.val < 64 then (if xi.val = j.val then 1 else 0) else if yr.val = j.val - 64 then 1 else 0 : EReal))
    (h1 : ∀ i, x1 (ix3 (0 : Fin 1) xi i) = n i) (h6 : ∀ i, x6 (ix2 i (laneOf a k)) = w i) (hp : p (ix2 yr (laneOf a k)) = z) :
    Edge.msg (F := Ideal) x0 x1 x3 x4 x6 p (ix3 (0 : Fin 1) rr (laneOf a k))
      = ((∑ i, (r i : EReal) * (s i : EReal)) + (r k : EReal)) + ((∑ i, n i * w i) + z) := by
  rw [Edge.msg_at]
  refine congrArg₂ (fun x y : EReal => x + y) ?_ ?_
  · rw [Value.sum_lanes_edge _ a, ← Value.own_and_weights]
    · exact Finset.sum_congr rfl fun i _ => congrArg₂ (fun x y : EReal => x * y) (h0 i) (h4 i)
    · exact fun l hl => (congrArg (fun y : EReal => _ * y) (h4' l hl)).trans (mul_zero _)
  · have hk := Value.pick xi yr (fun j => ∑ i : Fin 8, (x1 (ix3 (0 : Fin 1) j i) * x6 (ix2 i (laneOf a k)) : EReal)) (fun j => p (ix2 j (laneOf a k)))
    simp only [h1, h6, hp] at hk
    rw [← hk]
    refine Finset.sum_congr rfl fun j _ => congrArg₂ (fun x y : EReal => x * y) (h3 j) ?_
    by_cases h : j.val < 64
    · rw [dif_pos h, dif_pos h]
      simp only [h6]
    · rw [dif_neg h, dif_neg h]

/-- The edges' array at the edge from `x` to `y`. -/
theorem edge_value (hev : ∀ b e i, ∃ r : ℝ, (given m c).ev b e i = r) (hW : ∀ i j, ∃ r : ℝ, (given m c).W i j = r)
    (b : Fin 4) (x y : Fin 1024) (k : Fin 8) :
    V11 m (left m) c main_v61 (ix3 b (edge x y) k) = Value.newEdge (given m c) b x y k := by
  choose r hr using hev
  choose s hs using hW
  have hx := x.isLt
  have hy := y.isLt
  obtain ⟨q, xi, hxq⟩ : ∃ (q : Fin 16) (xi : Fin 64), x.val = q.val * 64 + xi.val := ⟨⟨x.val / 64, by omega⟩, ⟨x.val % 64, by omega⟩, by
    show x.val = x.val / 64 * 64 + x.val % 64; omega⟩
  obtain ⟨yr, a, hya⟩ : ∃ (yr : Fin 64) (a : Fin 16), y.val = yr.val * 16 + a.val := ⟨⟨y.val / 16, by omega⟩, ⟨y.val % 16, by omega⟩, by
    show y.val = y.val / 16 * 16 + y.val % 16; omega⟩
  have hq := q.isLt
  have hxi := xi.isLt
  have hyr := yr.isLt
  have ha := a.isLt
  have hk := k.isLt
  let rr : Fin 4096 := ⟨xi.val * 64 + yr.val, by omega⟩
  have e1 : (⟨(edge x y).val / 16, by have := (edge x y).isLt; omega⟩ : Fin 65536) = Edge.flatRow q rr := Fin.ext (by
    show (x.val * 1024 + y.val) / 16 = q.val * 4096 + (xi.val * 64 + yr.val); omega)
  have e2 : (⟨(edge x y).val % 16 * 8 + k.val, by omega⟩ : Fin 128) = laneOf a k := Fin.ext (by
    show (x.val * 1024 + y.val) % 16 * 8 + k.val = a.val * 8 + k.val; omega)
  have d1 : rr.val / 64 = xi.val := by show (xi.val * 64 + yr.val) / 64 = xi.val; omega
  have d2 : rr.val % 64 = yr.val := by show (xi.val * 64 + yr.val) % 64 = yr.val; omega
  have en : (⟨yr.val * 16 + a.val, by omega⟩ : Fin 1024) = y := Fin.ext hya.symm
  have ex : Edge.nodeRow q xi = x := Fin.ext hxq.symm
  have ee : (⟨(Edge.flatRow q rr).val * 16 + a.val, by have := (Edge.flatRow q rr).isLt; omega⟩ : Fin 1048576) = edge x y := Fin.ext (by
    show (q.val * 4096 + (xi.val * 64 + yr.val)) * 16 + a.val = x.val * 1024 + y.val; omega)
  rw [edge_result, e1, e2, Edge.msgs_at]
  refine (msg_is _ _ _ _ _ _ rr xi yr a k (r b (edge x y)) (fun i => s (hi i) (hi k)) ((given m c).nv b x) (fun i => (given m c).W (lo i) (hi k))
    ((∑ i, (given m c).nv b y i * (given m c).W (mid i) (hi k)) + (given m c).b (hi k)) ?_ ?_ ?_ ?_ ?_ ?_ ?_).trans ?_
  · intro i
    rw [Edge.blk0_flat, Edge.batch_point, Edge.part16_point, flat_at, ee, hr]
  · intro i
    rw [Edge.blk4_at]
    refine (Prefix.v18_at m c (laneOf a i) (laneOf a k)).trans ?_
    have hw : Prefix.weight m c (hi i) (hi k) = (s (hi i) (hi k) : EReal) := hs _ _
    rw [laneOf_div, laneOf_div, if_pos rfl, one_mul, lane_laneOf, lane_laneOf, hw]
    refine congrArg (fun z : EReal => _ + z) ?_
    have hi' := i.isLt
    by_cases h : i = k
    · rw [if_pos h, if_pos (by rw [h])]
    · rw [if_neg h, if_neg (fun e => h (Fin.ext (by
        have e' : a.val * 8 + i.val = a.val * 8 + k.val := e
        omega)))]
  · intro l hl
    rw [Edge.blk4_at]
    refine (Prefix.v18_at m c l (laneOf a k)).trans ?_
    rw [laneOf_div, if_neg hl, zero_mul, zero_add, if_neg (fun e => hl (by rw [e, laneOf_div]))]
  · intro j
    rw [Edge.blk3_at]
    refine (Prefix.v55_at m c rr j).trans ?_
    rw [d1, d2]
  · intro i
    rw [Edge.blk1_at, Edge.batch_point, Edge.part16_point, ex]
    exact Prefix.arg0_at m c _
  · intro i
    rw [Edge.blk6_at]
    refine (Prefix.v22_at m c i (laneOf a k)).trans ?_
    rw [lane_laneOf]
    rfl
  · rw [kept_at, Edge.batch_point, en]
  · unfold Value.newEdge Value.message
    rw [hr b (edge x y) k]
    simp only [hr, hs]
    generalize (∑ i, (r b (edge x y) i : EReal) * (s (hi i) (hi k) : EReal)) = p1
    generalize (∑ i, (given m c).nv b x i * (s (lo i) (hi k) : EReal)) = p2
    generalize (∑ i, (given m c).nv b y i * (s (mid i) (hi k) : EReal)) = p3
    generalize (r b (edge x y) k : EReal) = p4
    generalize (given m c).b (hi k) = p5
    ac_rfl

/-- The sums over the edges that leave vertex `n`. -/
theorem leaving_value (b : Fin 4) (n : Fin 1024) (k : Fin 8) :
    (Edge.leaving (V7 m) c (ix3 b n k) : EReal) = ∑ y, (given m c).ev b (edge n y) k := by
  have hn := n.isLt
  obtain ⟨q, xi, hxq⟩ : ∃ (q : Fin 16) (xi : Fin 64), n = Edge.nodeRow q xi := ⟨⟨n.val / 64, by omega⟩, ⟨n.val % 64, by omega⟩, Fin.ext (by
    show n.val = n.val / 64 * 64 + n.val % 64; omega)⟩
  have hxi := xi.isLt
  have hq := q.isLt
  rw [hxq, Edge.leaving_at]
  unfold Edge.outRow
  rw [Edge.rowSum_at, ← Value.sum_rows]
  refine Finset.sum_congr rfl fun yr _ => ?_
  have hyr := yr.isLt
  rw [Value.sum_lanes_channel _ k]
  · refine Finset.sum_congr rfl fun a _ => ?_
    have ha := a.isLt
    rw [Edge.blk0_flat, Edge.blk7_at, Edge.batch_point, Edge.part16_point]
    refine (congrArg₂ (fun x y : EReal => x * y) (flat_at m c b _ a k) ((Prefix.v31_at m c (laneOf a k) k).trans (if_pos (laneOf_mod a k)))).trans ?_
    refine (mul_one _).trans (congrArg (fun e => (given m c).ev b e k) (Fin.ext ?_))
    show (q.val * 4096 + (xi.val * 64 + yr.val)) * 16 + a.val = (q.val * 64 + xi.val) * 1024 + (yr.val * 16 + a.val)
    omega
  · intro l hl
    rw [Edge.blk7_at]
    exact (congrArg (fun y : EReal => _ * y) ((Prefix.v31_at m c l k).trans (if_neg hl))).trans (mul_zero _)

/-- The sums over the edges that enter vertex `n`. -/
theorem entering_value (b : Fin 4) (n : Fin 1024) (k : Fin 8) :
    @Eq EReal (V9 m (left m) c main_v57 (ix3 b n k)) (∑ x, (given m c).ev b (edge x n) k) := by
  have hn := n.isLt
  have hk := k.isLt
  refine @Eq.trans EReal _ _ _ (v9_entering m c b n k) ?_
  have e : (⟨n.val % 16 * 8 + k.val, by omega⟩ : Fin 128) = laneOf ⟨n.val % 16, by omega⟩ k := rfl
  rw [e, Edge.entering_at, ← Value.sum_sixteenths]
  refine Finset.sum_congr rfl fun q _ => Finset.sum_congr rfl fun x _ => ?_
  rw [flat_at]
  refine congrArg (fun e => (given m c).ev b e k) (Fin.ext ?_)
  have hx := x.isLt
  show (q.val * 4096 + (x.val * 64 + n.val / 16)) * 16 + n.val % 16 = (q.val * 64 + x.val) * 1024 + n.val
  omega

end Cert.KernelIdeal.Left

end
-- ==== Proof.Value.NodeEqual.lean ====
/-
The kernel's first result is the vertices' new values, where the vertices' and edges' values and the
message layer's weights are finite.
-/
module

public import proofs.«01_k».proof.Proof.Value.EdgeEqual
public import Idealize.ShloMosaic.Lib.IdealHost

@[expose] public section

set_option maxRecDepth 16384

noncomputable section

namespace Cert.KernelIdeal.Left

open Cert.KernelIdeal Cert.KernelIdeal.Gen Cert.KernelIdeal.Run
open Idealize.ShloMosaic Idealize.ShloMosaic.TcCoe
open Cert.Value (Args lo mid hi edge)

theorem thousand : Ideal.ofBits .f32 0x44800000#32 = ((1024 : ℝ) : EReal) := by
  simp [Ideal.ofBits, Ideal.ieee]
  rw [← EReal.coe_mul]
  norm_num
theorem thousandth : Ideal.ofBits .f32 0x3A800000#32 = ((1 / 1024 : ℝ) : EReal) := by
  simp [Ideal.ofBits, Ideal.ieee]
  rw [← EReal.coe_mul]
  norm_num

theorem div_thousand (r : ℝ) : Ideal.div (r : EReal) (Ideal.ofBits .f32 0x44800000#32) = ((r / 1024 : ℝ) : EReal) := by
  rw [thousand]
  unfold Ideal.div
  rw [if_neg (by norm_cast), ← EReal.coe_inv, ← EReal.coe_mul, div_eq_mul_inv]

/-- A mean of messages, over a family of edges with one end fixed, from the means the kernel forms: `a` and `p`
    the fixed end's values and weights, `N` and `w` the other ends', `E` and `v` the edges'. -/
theorem mean_messages (p w v : Fin 8 → ℝ) (a : Fin 8 → ℝ) (N E : Fin 1024 → Fin 8 → ℝ) (bj : EReal) :
    (∑ i, (a i : EReal) * (p i : EReal))
        + (∑ i, Ideal.div (∑ x, (N x i : EReal)) (Ideal.ofBits .f32 0x44800000#32) * (w i : EReal))
        + (∑ i, (∑ y, (E y i : EReal)) * Ideal.ofBits .f32 0x3A800000#32 * (v i : EReal)) + bj
      = (∑ y, ((∑ i, (a i : EReal) * (p i : EReal)) + (∑ i, (N y i : EReal) * (w i : EReal)) + (∑ i, (E y i : EReal) * (v i : EReal)) + bj)) / 1024 := by
  simp only [Value.coe_sum, div_thousand, thousandth, ← EReal.coe_mul, ← EReal.coe_add]
  rw [Value.mean_add, Value.mean_linear]

/-- The same with the fixed end second. -/
theorem mean_messages' (p w v : Fin 8 → ℝ) (a : Fin 8 → ℝ) (N E : Fin 1024 → Fin 8 → ℝ) (bj : EReal) :
    (∑ i, Ideal.div (∑ x, (N x i : EReal)) (Ideal.ofBits .f32 0x44800000#32) * (w i : EReal))
        + (∑ i, (a i : EReal) * (p i : EReal))
        + (∑ i, (∑ y, (E y i : EReal)) * Ideal.ofBits .f32 0x3A800000#32 * (v i : EReal)) + bj
      = (∑ y, ((∑ i, (N y i : EReal) * (w i : EReal)) + (∑ i, (a i : EReal) * (p i : EReal)) + (∑ i, (E y i : EReal) * (v i : EReal)) + bj)) / 1024 := by
  rw [add_comm (∑ i, Ideal.div _ _ * (w i : EReal)), mean_messages]
  refine congrArg (fun z : EReal => z / 1024) (Finset.sum_congr rfl fun y _ => ?_)
  rw [add_comm (∑ i, (a i : EReal) * (p i : EReal))]

variable (m : (ℓ : Loc nD τ sig) → Buf (Elt Ideal) ℓ) (c : Dev nD)

/-- The node kernel's new value at one vertex and channel, in terms of what it reads of its blocks. -/
theorem rows_is (A : Args) (b : Fin 4) (x0 x1 x2 : Vec Ideal S1x1024x8 .f32) (x3 : Vec Ideal S24x24 .f32) (x4 : Vec Ideal S24x8 .f32)
    (x5 : Vec Ideal S1x24 .f32) (x6 : Vec Ideal S1x8 .f32) (n : Fin 1024) (k : Fin 8)
    (hnv : ∀ b e i, ∃ r : ℝ, A.nv b e i = r) (hev : ∀ b e i, ∃ r : ℝ, A.ev b e i = r) (hW : ∀ i j, ∃ r : ℝ, A.W i j = r)
    (h0 : ∀ n i, x0 (ix3 (0 : Fin 1) n i) = A.nv b n i)
    (h1 : ∀ i, x1 (ix3 (0 : Fin 1) n i) = (∑ y, A.ev b (edge n y) i : EReal))
    (h2 : ∀ i, x2 (ix3 (0 : Fin 1) n i) = (∑ x, A.ev b (edge x n) i : EReal))
    (h3 : ∀ i j, x3 (ix2 i j) = A.W i j) (h4 : ∀ i j, x4 (ix2 i j) = A.U i j)
    (h5 : ∀ j, x5 (ix2 (0 : Fin 1) j) = A.b j) (h6 : ∀ j, x6 (ix2 (0 : Fin 1) j) = A.u j) :
    Node.rows (F := Ideal) x0 x1 x2 x3 x4 x5 x6 (ix3 (0 : Fin 1) n k) = Value.newNode A b n k := by
  choose r hr using hev
  choose s hs using hW
  choose q hq using hnv
  rw [Node.rows_at]
  simp only [h0, h1, h2, h3, h4, h5, h6]
  unfold Value.newNode
  have hout : ∀ j, Value.meanOut A b n j = _ := fun j => by
    unfold Value.meanOut Value.message
    simp only [hr, hs, hq]
    exact (mean_messages (fun i => s (lo i) (lo j)) (fun i => s (mid i) (lo j)) (fun i => s (hi i) (lo j)) (q b n) (q b)
      (fun y => r b (edge n y)) (A.b (lo j))).symm
  have hin : ∀ j, Value.meanIn A b n j = _ := fun j => by
    unfold Value.meanIn Value.message
    simp only [hr, hs, hq]
    exact (mean_messages' (fun i => s (mid i) (mid j)) (fun i => s (lo i) (mid j)) (fun i => s (hi i) (mid j)) (q b n) (q b)
      (fun y => r b (edge y n)) (A.b (mid j))).symm
  simp only [hout, hin, hr, hs, hq]

/-- The vertices' array at vertex `n`. -/
theorem node_value (hnv : ∀ b e i, ∃ r : ℝ, (given m c).nv b e i = r) (hev : ∀ b e i, ∃ r : ℝ, (given m c).ev b e i = r)
    (hW : ∀ i j, ∃ r : ℝ, (given m c).W i j = r) (b : Fin 4) (n : Fin 1024) (k : Fin 8) :
    V11 m (left m) c main_v60 (ix3 b n k) = Value.newNode (given m c) b n k := by
  rw [node_result]
  unfold Node.result
  refine rows_is (given m c) b _ _ _ _ _ _ _ n k hnv hev hW ?_ ?_ ?_ ?_ ?_ ?_ ?_
  · intro n i; rw [Node.blk0_at]; exact v9_arg0 m c _
  · intro i; rw [Node.blk1_at]; exact (congrFun (v9_leaving m c) _).trans (leaving_value m c b n i)
  · intro i; rw [Node.blk2_at]; exact entering_value m c b n i
  · intro i j; rw [Node.blk3_at]; exact v9_arg4 m c i j
  · intro i j; rw [Node.blk4_at]; exact v9_arg6 m c _
  · intro j; rw [Node.blk5_at]; exact v9_bias m c j
  · intro j; rw [Node.blk6_at]; exact v9_bias_update m c j

end Cert.KernelIdeal.Left

end
-- ==== Proof.Value.Equal.lean ====
/-
The value claim: on a complete graph with finite vertices' and edges' values and finite message
weights, the kernel and the reference end with equal results.
-/
module

public import proofs.«01_k».proof.Proof.Frames
public import proofs.«01_k».proof.Proof.Value.Pre
public import proofs.«01_k».proof.Proof.Value.NodeEqual
public import proofs.«01_k».proof.Proof.Gen.ReferenceIdeal.Read

@[expose] public section

set_option maxRecDepth 16384

noncomputable section

namespace Cert.Value

open Idealize.ShloMosaic Idealize.ShloMosaic.TcCoe Idealize.SL.Sem
open Cert.KernelIdeal Cert.KernelIdeal.Gen Cert.KernelIdeal.Run Cert.KernelIdeal.Left

variable (m : (ℓ : Loc nD τ sig) → Buf (Elt Ideal) ℓ) (c : Dev nD)

/-- What the precondition says of the arguments on a device: the edges' two ends, and which values are finite. -/
theorem facts_of (h : Cert.Pre_KernelIdeal_complete_graph m) :
    (∀ e : Fin 1048576, m ((c : Thread nD τ).loc main_arg2) (ix1 e) = BitVec.ofNat 32 (source e).val)
      ∧ (∀ e : Fin 1048576, m ((c : Thread nD τ).loc main_arg3) (ix1 e) = BitVec.ofNat 32 (target e).val)
      ∧ (∀ b e i, ∃ r : ℝ, (given m c).nv b e i = r) ∧ (∀ b e i, ∃ r : ℝ, (given m c).ev b e i = r)
      ∧ (∀ i j, ∃ r : ℝ, (given m c).W i j = r) := by
  obtain ⟨hs, ht, h0, h1, h4⟩ := pre_facts _ _ _ _ _ _ _ _ (h c)
  exact ⟨hs, ht, fun b e i => h0 (ix3 b e i), fun b e i => h1 (ix3 b e i), fun i j => h4 (ix2 i j)⟩

/-- The reference's first result, of the kernel's arguments. -/
theorem nodes_agree (h : Cert.Pre_KernelIdeal_complete_graph m) (i : S4x1024x8.Idx) :
    Cert.ReferenceIdeal.Read.val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) i
      = V11 m (left m) c main_v60 i := by
  obtain ⟨hs, ht, h0, h1, h4⟩ := facts_of m c h
  obtain ⟨b, n, k, rfl⟩ : ∃ (b : Fin 4) (n : Fin 1024) (k : Fin 8), i = ix3 b n k := ⟨i 0, i 1, i 2, eq_ix3 i⟩
  rw [node_value m c h0 h1 h4]
  exact reference_node _ _ _ _ _ _ _ _ hs ht b n k

/-- The reference's second result, of the kernel's arguments. -/
theorem edges_agree (h : Cert.Pre_KernelIdeal_complete_graph m) (i : S4x1048576x8.Idx) :
    Cert.ReferenceIdeal.Read.val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) i
      = V11 m (left m) c main_v61 i := by
  obtain ⟨hs, ht, h0, h1, h4⟩ := facts_of m c h
  obtain ⟨b, e, k, rfl⟩ : ∃ (b : Fin 4) (e : Fin 1048576) (k : Fin 8), i = ix3 b e k := ⟨i 0, i 1, i 2, eq_ix3 i⟩
  rw [← edge_ends e, edge_value m c h1 h4]
  exact reference_edge _ _ _ _ _ _ (m ((c : Thread nD τ).loc main_arg6)) (m ((c : Thread nD τ).loc main_arg7)) hs ht b _ _ k

theorem algebraic : Cert.algebraic_KernelIdeal_ReferenceIdeal_pre_complete_graph := by
  intro m g m' g' hpre hargs
  refine ⟨fun c => V11 m (left m) c main_v60, fun c => V11 m (left m) c main_v61, ?_, ?_⟩
  · exact (θ_run defs _ _).mono (fun r h c => ⟨(h.1 c).2.1, (h.1 c).2.2, (h.1 c).1⟩) (Cert.Frames.outcome m g)
  · refine (θ_run (Cert.ReferenceIdeal.defs (F := Ideal)) _ _).mono (fun r h c => ⟨(h c).1.trans ?_, (h c).2.1.trans ?_, (h c).2.2⟩)
      (Cert.ReferenceIdeal.Value.run m' g')
    · obtain ⟨a0, a1, a2, a3, a4, a5, a6, a7⟩ := hargs c
      rw [Cert.ReferenceIdeal.Read.val_main_v57_eq, a0, a1, a2, a3, a4, a5, a6, a7]
      exact funext (nodes_agree m c hpre)
    · obtain ⟨a0, a1, a2, a3, a4, a5, a6, a7⟩ := hargs c
      rw [Cert.ReferenceIdeal.Read.val_main_v58_eq, a0, a1, a2, a3, a4, a5]
      exact funext (edges_agree m c hpre)

end Cert.Value

end
-- ==== Proof.lean ====
/- The claims: the frames of the kernel in its two readings and of the reference, and the equality of the
   kernel's and the reference's results over the extended reals. -/
module

public import proofs.«01_k».proof.Defs
public import proofs.«01_k».proof.Proof.Frames
public import proofs.«01_k».proof.Proof.Value.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_complete_graph.Gen.facts,
  Cert.Frames.compiled, Cert.Frames.ideal, fun m g _ => Cert.Frames.frame m g, Cert.Frames.reference, fun m g _ => Cert.Frames.reference_frame m g,
  trivial, Cert.Value.algebraic⟩

end Cert.Proof

end
